-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Fetch [hPre_in_table : Cert.Pre_in_table.Facts] (m : (ℓ : Loc Cert.Fetch.nD Cert.Fetch.τ Cert.Fetch.sig) → Buf (Elt Bits) ℓ) : Prop :=
  ∀ c : Dev Cert.Fetch.nD,
    (Cert.Pre_in_table.fn (F := Bits) (m ((c.tc : Thread Cert.Fetch.nD Cert.Fetch.τ).loc Cert.Fetch.main_arg0)) (m ((c.tc : Thread Cert.Fetch.nD Cert.Fetch.τ).loc Cert.Fetch.main_arg1))) = (fun _ => 1#1)

def Pre_FetchIdeal [hPre_in_table : Cert.Pre_in_table.Facts] (m : (ℓ : Loc Cert.FetchIdeal.nD Cert.FetchIdeal.τ Cert.FetchIdeal.sig) → Buf (Elt Ideal) ℓ) : Prop :=
  ∀ c : Dev Cert.FetchIdeal.nD,
    (Cert.Pre_in_table.fn (F := Ideal) (m ((c.tc : Thread Cert.FetchIdeal.nD Cert.FetchIdeal.τ).loc Cert.FetchIdeal.main_arg0)) (m ((c.tc : Thread Cert.FetchIdeal.nD Cert.FetchIdeal.τ).loc Cert.FetchIdeal.main_arg1))) = (fun _ => 1#1)

def Pre_LookupIdeal (m : (ℓ : Loc Cert.LookupIdeal.nD Cert.LookupIdeal.τ Cert.LookupIdeal.sig) → Buf (Elt Ideal) ℓ) : Prop :=
  True

def Pre_LookupIdeal_in_table [hPre_in_table : Cert.Pre_in_table.Facts] (m : (ℓ : Loc Cert.LookupIdeal.nD Cert.LookupIdeal.τ Cert.LookupIdeal.sig) → Buf (Elt Ideal) ℓ) : Prop :=
  ∀ c : Dev Cert.LookupIdeal.nD,
    (Cert.Pre_in_table.fn (F := Ideal) (m ((c.tc : Thread Cert.LookupIdeal.nD Cert.LookupIdeal.τ).loc Cert.LookupIdeal.main_arg0)) (m ((c.tc : Thread Cert.LookupIdeal.nD Cert.LookupIdeal.τ).loc Cert.LookupIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Fetch [hFetch : Cert.Fetch.Facts] [hPre_in_table : Cert.Pre_in_table.Facts] : Prop :=
  ∀ (m : (ℓ : Loc Cert.Fetch.nD Cert.Fetch.τ Cert.Fetch.sig) → Buf (Elt Bits) ℓ) (g : Dev Cert.Fetch.nD → PrngReg), Pre_Fetch m →
    θ_run (Cert.Fetch.defs (F := Bits)) (Cert.Fetch.threads (F := Bits)) ⟨m, fun _ => 0, g⟩ (fun r => (∀ c : Dev Cert.Fetch.nD,
      r.2.mem ((c.tc : Thread Cert.Fetch.nD Cert.Fetch.τ).loc Cert.Fetch.main_arg0) = m ((c.tc : Thread Cert.Fetch.nD Cert.Fetch.τ).loc Cert.Fetch.main_arg0)
      ∧ r.2.mem ((c.tc : Thread Cert.Fetch.nD Cert.Fetch.τ).loc Cert.Fetch.main_arg1) = m ((c.tc : Thread Cert.Fetch.nD Cert.Fetch.τ).loc Cert.Fetch.main_arg1))
      ∧ r.2.sem = fun _ => 0)

def quiescent_FetchIdeal [hFetchIdeal : Cert.FetchIdeal.Facts] [hPre_in_table : Cert.Pre_in_table.Facts] : Prop :=
  ∀ (m : (ℓ : Loc Cert.FetchIdeal.nD Cert.FetchIdeal.τ Cert.FetchIdeal.sig) → Buf (Elt Ideal) ℓ) (g : Dev Cert.FetchIdeal.nD → PrngReg), Pre_FetchIdeal m →
    θ_run (Cert.FetchIdeal.defs (F := Ideal)) (Cert.FetchIdeal.threads (F := Ideal)) ⟨m, fun _ => 0, g⟩ (fun r => (∀ c : Dev Cert.FetchIdeal.nD,
      r.2.mem ((c.tc : Thread Cert.FetchIdeal.nD Cert.FetchIdeal.τ).loc Cert.FetchIdeal.main_arg0) = m ((c.tc : Thread Cert.FetchIdeal.nD Cert.FetchIdeal.τ).loc Cert.FetchIdeal.main_arg0)
      ∧ r.2.mem ((c.tc : Thread Cert.FetchIdeal.nD Cert.FetchIdeal.τ).loc Cert.FetchIdeal.main_arg1) = m ((c.tc : Thread Cert.FetchIdeal.nD Cert.FetchIdeal.τ).loc Cert.FetchIdeal.main_arg1))
      ∧ r.2.sem = fun _ => 0)

def quiescent_LookupIdeal [hLookupIdeal : Cert.LookupIdeal.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal m →
    θ_run (Cert.LookupIdeal.defs (F := Ideal)) (onTc (τ := Cert.LookupIdeal.τ) (Cert.LookupIdeal.main (F := Ideal))) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ r.2.sem = fun _ => 0)

def quiescent_LookupIdeal_pre_in_table [hLookupIdeal : Cert.LookupIdeal.Facts] [hPre_in_table : Cert.Pre_in_table.Facts] : Prop :=
  ∀ (m : (ℓ : Loc Cert.LookupIdeal.nD Cert.LookupIdeal.τ Cert.LookupIdeal.sig) → Buf (Elt Ideal) ℓ) (g : Dev Cert.LookupIdeal.nD → PrngReg), Pre_LookupIdeal_in_table m →
    θ_run (Cert.LookupIdeal.defs (F := Ideal)) (onTc (τ := Cert.LookupIdeal.τ) (Cert.LookupIdeal.main (F := Ideal))) ⟨m, fun _ => 0, g⟩ (fun r => (∀ c : Dev Cert.LookupIdeal.nD,
      r.2.mem ((c.tc : Thread Cert.LookupIdeal.nD Cert.LookupIdeal.τ).loc Cert.LookupIdeal.main_arg0) = m ((c.tc : Thread Cert.LookupIdeal.nD Cert.LookupIdeal.τ).loc Cert.LookupIdeal.main_arg0)
      ∧ r.2.mem ((c.tc : Thread Cert.LookupIdeal.nD Cert.LookupIdeal.τ).loc Cert.LookupIdeal.main_arg1) = m ((c.tc : Thread Cert.LookupIdeal.nD Cert.LookupIdeal.τ).loc Cert.LookupIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Fetch_FetchIdeal : Prop :=
  True

def algebraic_FetchIdeal_LookupIdeal [hFetchIdeal : Cert.FetchIdeal.Facts] [hLookupIdeal : Cert.LookupIdeal.Facts] [hPre_in_table : Cert.Pre_in_table.Facts] : Prop :=
  ∀ (m : (ℓ : Loc Cert.FetchIdeal.nD Cert.FetchIdeal.τ Cert.FetchIdeal.sig) → Buf (Elt Ideal) ℓ) (g : Dev Cert.FetchIdeal.nD → PrngReg)
    (m' : (ℓ : Loc Cert.LookupIdeal.nD Cert.LookupIdeal.τ Cert.LookupIdeal.sig) → Buf (Elt Ideal) ℓ) (g' : Dev Cert.LookupIdeal.nD → PrngReg), Pre_FetchIdeal m →
    (∀ c : Dev Cert.FetchIdeal.nD,
      m' ((c.tc : Thread Cert.LookupIdeal.nD Cert.LookupIdeal.τ).loc Cert.LookupIdeal.main_arg0) = m ((c.tc : Thread Cert.FetchIdeal.nD Cert.FetchIdeal.τ).loc Cert.FetchIdeal.main_arg0)
      ∧ m' ((c.tc : Thread Cert.LookupIdeal.nD Cert.LookupIdeal.τ).loc Cert.LookupIdeal.main_arg1) = m ((c.tc : Thread Cert.FetchIdeal.nD Cert.FetchIdeal.τ).loc Cert.FetchIdeal.main_arg1)) →
    ∃ (v0 : (c : Dev Cert.FetchIdeal.nD) → Buf (Elt Ideal) ((c.tc : Thread Cert.FetchIdeal.nD Cert.FetchIdeal.τ).loc Cert.FetchIdeal.main_v3)),
      θ_run (Cert.FetchIdeal.defs (F := Ideal)) (Cert.FetchIdeal.threads (F := Ideal)) ⟨m, fun _ => 0, g⟩ (fun r => ∀ c : Dev Cert.FetchIdeal.nD,
          r.2.mem ((c.tc : Thread Cert.FetchIdeal.nD Cert.FetchIdeal.τ).loc Cert.FetchIdeal.main_v3) = v0 c
          ∧ r.2.mem ((c.tc : Thread Cert.FetchIdeal.nD Cert.FetchIdeal.τ).loc Cert.FetchIdeal.main_arg0) = m ((c.tc : Thread Cert.FetchIdeal.nD Cert.FetchIdeal.τ).loc Cert.FetchIdeal.main_arg0)
          ∧ r.2.mem ((c.tc : Thread Cert.FetchIdeal.nD Cert.FetchIdeal.τ).loc Cert.FetchIdeal.main_arg1) = m ((c.tc : Thread Cert.FetchIdeal.nD Cert.FetchIdeal.τ).loc Cert.FetchIdeal.main_arg1))
      ∧ θ_run (Cert.LookupIdeal.defs (F := Ideal)) (onTc (τ := Cert.LookupIdeal.τ) (Cert.LookupIdeal.main (F := Ideal))) ⟨m', fun _ => 0, g'⟩ (fun r => ∀ c : Dev Cert.LookupIdeal.nD,
          r.2.mem ((c.tc : Thread Cert.LookupIdeal.nD Cert.LookupIdeal.τ).loc Cert.LookupIdeal.main_v7) = v0 c
          ∧ r.2.mem ((c.tc : Thread Cert.LookupIdeal.nD Cert.LookupIdeal.τ).loc Cert.LookupIdeal.main_arg0) = m' ((c.tc : Thread Cert.LookupIdeal.nD Cert.LookupIdeal.τ).loc Cert.LookupIdeal.main_arg0)
          ∧ r.2.mem ((c.tc : Thread Cert.LookupIdeal.nD Cert.LookupIdeal.τ).loc Cert.LookupIdeal.main_arg1) = m' ((c.tc : Thread Cert.LookupIdeal.nD Cert.LookupIdeal.τ).loc Cert.LookupIdeal.main_arg1))

def Claim : Prop :=
  ∃ (hKernel : Cert.Kernel.Facts) (hKernelIdeal : Cert.KernelIdeal.Facts) (hReferenceIdeal : Cert.ReferenceIdeal.Facts) (hFetch : Cert.Fetch.Facts) (hFetchIdeal : Cert.FetchIdeal.Facts) (hLookupIdeal : Cert.LookupIdeal.Facts) (hPre_finite : Cert.Pre_finite.Facts) (hPre_in_table : Cert.Pre_in_table.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fetch (hFetch := hFetch) (hPre_in_table := hPre_in_table)
    ∧ quiescent_FetchIdeal (hFetchIdeal := hFetchIdeal) (hPre_in_table := hPre_in_table)
    ∧ quiescent_LookupIdeal (hLookupIdeal := hLookupIdeal)
    ∧ quiescent_LookupIdeal_pre_in_table (hLookupIdeal := hLookupIdeal) (hPre_in_table := hPre_in_table)
    ∧ preserves_Kernel_KernelIdeal
    ∧ algebraic_KernelIdeal_ReferenceIdeal_pre_finite (hKernelIdeal := hKernelIdeal) (hReferenceIdeal := hReferenceIdeal) (hPre_finite := hPre_finite)
    ∧ preserves_Fetch_FetchIdeal
    ∧ algebraic_FetchIdeal_LookupIdeal (hFetchIdeal := hFetchIdeal) (hLookupIdeal := hLookupIdeal) (hPre_in_table := hPre_in_table)
-- ==== Pre_finite.lean ====
abbrev S4096x256 : Shape := ⟨2, ![4096, 256]⟩
abbrev S1024x256 : Shape := ⟨2, ![1024, 256]⟩
abbrev S512x256 : Shape := ⟨2, ![512, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S4096x256 .f32) (main_arg1 : FVec F S1024x256 .f32) (main_arg2 : FVec F S512x256 .f32) : IVec S_ 1 :=
  let main_v0 : FVec F S1024x256 .f32 := Host.absf main_arg1
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Pre_in_table.lean ====
abbrev S512x256 : Shape := ⟨2, ![512, 256]⟩
abbrev S2048x1 : Shape := ⟨2, ![2048, 1]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S512x256 .f32) (main_arg1 : IVec S2048x1 32) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg1 main_v0
  let main_c_0 : IVec S_ 32 := constantI S_ 32 512#32
  let main_v2 : IVec S2048x1 32 := broadcastInDim S2048x1 ![] bcast_S_S2048x1 main_c_0
  let main_v3 : IVec S2048x1 1 := cmpi .slt main_arg1 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S4096x256 : Shape := ⟨2, ![4096, 256]⟩
abbrev S1024x256 : Shape := ⟨2, ![1024, 256]⟩
abbrev S512x256 : Shape := ⟨2, ![512, 256]⟩
abbrev S2048x1 : Shape := ⟨2, ![2048, 1]⟩
abbrev S256x512 : Shape := ⟨2, ![256, 512]⟩
abbrev S512 : Shape := ⟨1, ![512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S2048 : Shape := ⟨1, ![2048]⟩
abbrev S_ : Shape := ⟨0, ![]⟩
abbrev S2048x256 : Shape := ⟨2, ![2048, 256]⟩
abbrev S4096x1024 : Shape := ⟨2, ![4096, 1024]⟩
abbrev S1x1 : Shape := ⟨2, ![1, 1]⟩
abbrev S1024x1024 : Shape := ⟨2, ![1024, 1024]⟩
abbrev S1x1024x256 : Shape := ⟨3, ![1, 1024, 256]⟩
abbrev S1 : Shape := ⟨1, ![1]⟩
abbrev S1x1x1 : Shape := ⟨3, ![1, 1, 1]⟩

abbrev nBuf : Space → Nat
  | .hbm => 19
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S512x256, .f32⟩
  | .hbm, ⟨3, _⟩ => ⟨S2048x1, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x256, .f32⟩
  | .hbm, ⟨14, _⟩ => ⟨S4096x1024, .f32⟩
  | .hbm, ⟨15, _⟩ => ⟨S1x1, .f32⟩
  | .hbm, ⟨16, _⟩ => ⟨S1024x1, .i32⟩
  | .hbm, ⟨17, _⟩ => ⟨S_, .f32⟩
  | .hbm, ⟨18, _⟩ => ⟨S1024, .i32⟩
  | .local _ .vmem, ⟨0, _⟩ => ⟨S1024x256, .f32⟩
  | .local _ .vmem, ⟨1, _⟩ => ⟨S512x256, .f32⟩
  | .local _ .vmem, ⟨2, _⟩ => ⟨S2048x1, .i32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S2048x256, .f32⟩
  | .local _ .vmem, ⟨7, _⟩ => ⟨S2048x1, .i32⟩
  | .local _ .vmem, ⟨8, _⟩ => ⟨S1024x1024, .f32⟩
  | .local _ .vmem, ⟨9, _⟩ => ⟨S1024x1024, .f32⟩
  | .local _ .vmem, ⟨10, _⟩ => ⟨S1x1, .f32⟩
  | .local _ .vmem, ⟨11, _⟩ => ⟨S1024x1, .i32⟩
  | .local _ .vmem, ⟨12, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem6_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![4], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .i32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== ReferenceIdeal.lean ====
abbrev S4096x256 : Shape := ⟨2, ![4096, 256]⟩
abbrev S1024x256 : Shape := ⟨2, ![1024, 256]⟩
abbrev S512x256 : Shape := ⟨2, ![512, 256]⟩
abbrev S1024x1x256 : Shape := ⟨3, ![1024, 1, 256]⟩
abbrev S1x512x256 : Shape := ⟨3, ![1, 512, 256]⟩
abbrev S1024x512x256 : Shape := ⟨3, ![1024, 512, 256]⟩
abbrev S_ : Shape := ⟨0, ![]⟩
abbrev S1024x512 : Shape := ⟨2, ![1024, 512]⟩
abbrev S1024 : Shape := ⟨1, ![1024]⟩
abbrev S1024x1 : Shape := ⟨2, ![1024, 1]⟩
abbrev S256x1024 : Shape := ⟨2, ![256, 1024]⟩
abbrev S4096x1024 : Shape := ⟨2, ![4096, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1024x256, .f32⟩
  | .hbm, ⟨2, _⟩ => ⟨S512x256, .f32⟩
  | .hbm, ⟨3, _⟩ => ⟨S1024x1x256, .f32⟩
  | .hbm, ⟨4, _⟩ => ⟨S1x512x256, .f32⟩
  | .hbm, ⟨5, _⟩ => ⟨S1024x512x256, .f32⟩
  | .hbm, ⟨6, _⟩ => ⟨S1024x512x256, .f32⟩
  | .hbm, ⟨7, _⟩ => ⟨S1024x512x256, .f32⟩
  | .hbm, ⟨8, _⟩ => ⟨S1024x512x256, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .i32⟩
  | .hbm, ⟨13, _⟩ => ⟨S_, .f32⟩
  | .hbm, ⟨14, _⟩ => ⟨S_, .i32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S256x1024, .f32⟩
  | .hbm, ⟨42, _⟩ => ⟨S4096x1024, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v5 : Ref sig .tc := ⟨.hbm, 11, rfl⟩
abbrev main_call1_v0 : Ref sig .tc := ⟨.hbm, 12, rfl⟩
abbrev main_call1_cst : Ref sig .tc := ⟨.hbm, 13, rfl⟩
abbrev main_call1_c : Ref sig .tc := ⟨.hbm, 14, rfl⟩
abbrev main_call1_v1_0 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩

abbrev nD : Nat := 1
abbrev τ : Topo := Topo.v7x

variable {F : FTy → Type} [FloatOps F]
-- ==== Fetch.lean ====
abbrev S512x256 : Shape := ⟨2, ![512, 256]⟩
abbrev S2048x1 : Shape := ⟨2, ![2048, 1]⟩
abbrev S512x2x128 : Shape := ⟨3, ![512, 2, 128]⟩
abbrev S2048 : Shape := ⟨1, ![2048]⟩
abbrev S2048x2x128 : Shape := ⟨3, ![2048, 2, 128]⟩
abbrev S64 : Shape := ⟨1, ![64]⟩
abbrev S64x2x128 : Shape := ⟨3, ![64, 2, 128]⟩
abbrev S_ : Shape := ⟨0, ![]⟩
abbrev S2048x256 : Shape := ⟨2, ![2048, 256]⟩

abbrev nBuf : Table → Nat
  | .hbm => 6
  | .local .scVector .vmem => 2
  | _ => 0

abbrev bufTy : (tb : Table) → Fin (nBuf tb) → BufTy
  | .hbm, ⟨0, _⟩ => ⟨S512x256, .f32⟩
  | .hbm, ⟨1, _⟩ => ⟨S2048x1, .i32⟩
  | .hbm, ⟨2, _⟩ => ⟨S512x2x128, .f32⟩
  | .hbm, ⟨3, _⟩ => ⟨S2048, .i32⟩
  | .hbm, ⟨4, _⟩ => ⟨S2048x2x128, .f32⟩
  | .hbm, ⟨5, _⟩ => ⟨S2048x256, .f32⟩
  | .local .scVector .vmem, ⟨0, _⟩ => ⟨S64, .i32⟩
  | .local .scVector .vmem, ⟨1, _⟩ => ⟨S64x2x128, .f32⟩
  | _, _ => ⟨S512x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_5_r1 : BitVec 32 := 0#32
  let c0_i32_6_r1 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== LookupIdeal.lean ====
abbrev S512x256 : Shape := ⟨2, ![512, 256]⟩
abbrev S2048x1 : Shape := ⟨2, ![2048, 1]⟩
abbrev S2048 : Shape := ⟨1, ![2048]⟩
abbrev S_ : Shape := ⟨0, ![]⟩
abbrev S2048x256 : Shape := ⟨2, ![2048, 256]⟩

abbrev nBuf : Space → Nat
  | .hbm => 12
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2048x1, .i32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.KernelIdeal.Top2.lean ====
/-
  The first call of the kernel (the two nearest codewords of every entity by the cheap metric), as one region of
  @main entered at buffer contents `V`: its body's triple, what it leaves in its output buffer, its proof data.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Pipeline.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Top2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

/-- The whole entity block, the whole codebook block, and the upper and lower halves of the index column. -/
abbrev rEnt : Rect S1024x256 := Rect.unit (s := S1024x256) ![0, 0] S1024x256.size inb_S1024x256_S1024x256_0_0
abbrev rCb : Rect S512x256 := Rect.unit (s := S512x256) ![0, 0] S512x256.size inb_S512x256_S512x256_0_0
abbrev rFst : Rect S2048x1 := Rect.unit (s := S2048x1) ![0, 0] S1024x1.size inb_S2048x1_S1024x1_0_0
abbrev rSnd : Rect S2048x1 := Rect.unit (s := S2048x1) ![1024, 0] S1024x1.size inb_S2048x1_S1024x1_1024_0

/-- The index column the body leaves: the nearest codewords in rows 0 to 1023, the second nearest in rows 1024 to
    2047 (the later store first). -/
def column (x : Vec F S1024x256 .f32) (cb : Vec F S512x256 .f32) : Vec F S2048x1 .i32 :=
  View.canon [⟨rSnd, k0_pay5 (View.ld x rEnt) (View.ld cb rCb)⟩, ⟨rFst, k0_pay4 (View.ld x rEnt) (View.ld cb rCb)⟩]

/-- The two stores cover the column. -/
theorem column_cover (p q : Vec F S1024x1 .i32) (y : S2048x1.Idx) :
    ∃ pc ∈ ([⟨rSnd, p⟩, ⟨rFst, q⟩] : List (View.Piece (Elt F) S2048x1 .i32)), y ∈ pc.1.set :=
  View.cover_of_tiled [⟨rSnd, p⟩, ⟨rFst, q⟩] S1024x1.size (by rfl) y

set_option maxHeartbeats 1000000 in
/-- The body on whole buffers: the inputs are handed back as they were, the output holds `column` of them. -/
theorem sound_kernel (c : Dev nD) (E : Set ℕ) (a0 : Memref sig .tc .vmem S1024x256 .f32) (h0 : a0.IsWhole)
    (a1 : Memref sig .tc .vmem S512x256 .f32) (h1 : a1.IsWhole) (a2 : Memref sig .tc .vmem S2048x1 .i32) (h2 : a2.IsWhole)
    (x : Vec F S1024x256 .f32) (cb : Vec F S512x256 .f32) (K : PUnit → sProp 𝕄) :
    iprop(owns (c : Thread nD τ) a0 fullShare x ∗ owns (c : Thread nD τ) a1 fullShare cb ∗ (∃ d, owns (c : Thread nD τ) a2 fullShare d)
        ∗ (iprop(owns (c : Thread nD τ) a0 fullShare x ∗ owns (c : Thread nD τ) a1 fullShare cb
            ∗ owns (c : Thread nD τ) a2 fullShare (column x cb)) -∗ K ⟨⟩))
      ⊢ wp frame (wpE (defs₀ (F := F)) Variants.none c none) E (cc0__top2_body a0 h0 a1 h1 a2 h2) K := by
  simp only [cc0__top2_body_eq_skeleton]; unfold cc0__top2_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (column_cover _ _)

section Region

variable (V : (c : Dev nD) → (b : Ref sig .tc) → Buf (Elt F) ((c : Thread nD τ).loc b))

/-! ## The region's proof data -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Arrays as entered; after the body each input at its block, the output at `column` of the two; nothing owed. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => column (blk V c 0 t) (blk V c 1 t)
  Φ _ := Pipeline.ΦA spec0 c
  q _ := fullShare
  owed _ := 0

theorem dat_A (c : Dev nD) (w : Fin cfg0.W) : (dat V c).A w = V c (Pipeline.arrRef spec0 w) := by dsimp only [dat]
theorem dat_after0 (c : Dev nD) (t : Fin cfg0.N) : (dat V c).after 0 t = blk V c 0 t := by dsimp only [dat]
theorem dat_after1 (c : Dev nD) (t : Fin cfg0.N) : (dat V c).after 1 t = blk V c 1 t := by dsimp only [dat]
theorem dat_after2 (c : Dev nD) (t : Fin cfg0.N) : (dat V c).after 2 t = column (blk V c 0 t) (blk V c 1 t) := by dsimp only [dat]

/-- An input's buffer holds its block when the body runs. -/
theorem dat_before0 (c : Dev nD) (t : Fin cfg0.N) (d) : (dat V c).before 0 t d = blk V c 0 t :=
  ((dat V c).before_in_eq_fetched 0 rfl (fun _ => rfl) (fun _ _ _ => rfl)
    (fun t => by rw [dat_after0]; unfold Dat.blockOf blk; rw [dat_A]; try rfl) t d).trans
    (by unfold Dat.fetched Dat.blockOf blk; rw [dat_A]; try rfl)
theorem dat_before1 (c : Dev nD) (t : Fin cfg0.N) (d) : (dat V c).before 1 t d = blk V c 1 t :=
  ((dat V c).before_in_eq_fetched 1 rfl (fun _ => rfl) (fun _ _ _ => rfl)
    (fun t => by rw [dat_after1]; unfold Dat.blockOf blk; rw [dat_A]; try rfl) t d).trans
    (by unfold Dat.fetched Dat.blockOf blk; rw [dat_A]; try rfl)

/-! ## The body obligation -/

/-- What the body is handed at point `t`, -/
def handed (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it hands back. -/
def handedBack (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    handed V c t ⊢ wp frame (wpE (defs₀ (F := F)) Variants.none c none) Set.univ (bodyAt0 t) (fun _ => handedBack V c t) := by
  unfold handed handedBack bodyAt0
  simp only [dat_before0, dat_before1]
  rw [show (dat V c).Φ t.succ = (dat V c).Φ t.castSucc from rfl,
    show (dat V c).owesAt () t.succ = (dat V c).owesAt () t.castSucc from rfl,
    dat_after0, dat_after1, dat_after2]
  iintro ⟨HΦ, Ho, ⟨%d0, H0⟩, ⟨%d1, H1⟩, ⟨%d2, H2⟩⟩
  iapply (sound_kernel c Set.univ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, body_row]
  exact triple_restated (sound_body V c t) rfl .rfl fun _ => .rfl

end Region

end Cert.KernelIdeal.Top2

end
-- ==== Proof.KernelIdeal.Score.lean ====
/-
  The second call of the kernel (the choice between the two candidates, the loss and the scores), as one region of
  @main entered at buffer contents `V`. The first grid point chooses: it stores the nearest index, the loss, and the
  chosen codewords in a scratch buffer that the later points read; every point multiplies its block of queries by the
  scratch buffer's rows.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Pipeline.Frame
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

set_option maxRecDepth 16384

noncomputable section

namespace Cert.KernelIdeal.Score

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body stores -/

abbrev rMat : Rect S1024x256 := Rect.unit (s := S1024x256) ![0, 0] S1024x256.size inb_S1024x256_S1024x256_0_0
abbrev rRowsFst : Rect S2048x256 := Rect.unit (s := S2048x256) ![0, 0] S1024x256.size inb_S2048x256_S1024x256_0_0
abbrev rRowsSnd : Rect S2048x256 := Rect.unit (s := S2048x256) ![1024, 0] S1024x256.size inb_S2048x256_S1024x256_1024_0
abbrev rIdxFst : Rect S2048x1 := Rect.unit (s := S2048x1) ![0, 0] S1024x1.size inb_S2048x1_S1024x1_0_0
abbrev rIdxSnd : Rect S2048x1 := Rect.unit (s := S2048x1) ![1024, 0] S1024x1.size inb_S2048x1_S1024x1_1024_0
abbrev rScore : Rect S1024x1024 := Rect.unit (s := S1024x1024) ![0, 0] S1024x1024.size inb_S1024x1024_S1024x1024_0_0
abbrev rOne : Rect S1x1 := Rect.unit (s := S1x1) ![0, 0] S1x1.size inb_S1x1_S1x1_0_0
abbrev rCol : Rect S1024x1 := Rect.unit (s := S1024x1) ![0, 0] S1024x1.size inb_S1024x1_S1024x1_0_0

/-- The chosen codewords, from the entities, the candidates' rows and the candidates' indices. -/
def chosen (x : Vec F S1024x256 .f32) (rows : Vec F S2048x256 .f32) (ix : Vec F S2048x1 .i32) : Vec F S1024x256 .f32 :=
  k1_pay10 (View.ld x rMat) (View.ld rows rRowsFst) (View.ld rows rRowsSnd) (View.ld ix rIdxFst) (View.ld ix rIdxSnd)

/-- The buffer holding them, -/
def quant (x : Vec F S1024x256 .f32) (rows : Vec F S2048x256 .f32) (ix : Vec F S2048x1 .i32) : Vec F S1024x256 .f32 :=
  View.canon [⟨rMat, chosen x rows ix⟩]

/-- the column of chosen indices, -/
def nearest (x : Vec F S1024x256 .f32) (rows : Vec F S2048x256 .f32) (ix : Vec F S2048x1 .i32) : Vec F S1024x1 .i32 :=
  View.canon [⟨rCol, k1_pay8 (View.ld x rMat) (View.ld rows rRowsFst) (View.ld rows rRowsSnd) (View.ld ix rIdxFst) (View.ld ix rIdxSnd)⟩]

/-- and the loss. -/
def loss (x : Vec F S1024x256 .f32) (rows : Vec F S2048x256 .f32) (ix : Vec F S2048x1 .i32) : Vec F S1x1 .f32 :=
  View.canon [⟨rOne, k1_pay1 (k1_pay11 (View.ld x rMat) (View.ld rows rRowsFst) (View.ld rows rRowsSnd) (View.ld ix rIdxFst) (View.ld ix rIdxSnd))
    (Scalar.ofBits .f32 0x3FA00000#32)⟩]

/-- A block of scores, from a block of queries and the chosen codewords' buffer. -/
def scores (q : Vec F S1024x256 .f32) (s : Vec F S1024x256 .f32) : Vec F S1024x1024 .f32 :=
  View.canon [⟨rScore, k1_pay2 (View.ld q rMat) (View.ld s rMat)⟩]

theorem mat_cover (p : Vec F S1024x256 .f32) (y : S1024x256.Idx) :
    ∃ pc ∈ ([⟨rMat, p⟩] : List (View.Piece (Elt F) S1024x256 .f32)), y ∈ pc.1.set :=
  View.cover_of_tiled [⟨rMat, p⟩] S1024x256.size (by rfl) y
theorem score_cover (p : Vec F S1024x1024 .f32) (y : S1024x1024.Idx) :
    ∃ pc ∈ ([⟨rScore, p⟩] : List (View.Piece (Elt F) S1024x1024 .f32)), y ∈ pc.1.set :=
  View.cover_of_tiled [⟨rScore, p⟩] S1024x1024.size (by rfl) y
theorem one_cover (p : Vec F S1x1 .f32) (y : S1x1.Idx) :
    ∃ pc ∈ ([⟨rOne, p⟩] : List (View.Piece (Elt F) S1x1 .f32)), y ∈ pc.1.set :=
  View.cover_of_tiled [⟨rOne, p⟩] S1x1.size (by rfl) y
theorem col_cover (p : Vec F S1024x1 .i32) (y : S1024x1.Idx) :
    ∃ pc ∈ ([⟨rCol, p⟩] : List (View.Piece (Elt F) S1024x1 .i32)), y ∈ pc.1.set :=
  View.cover_of_tiled [⟨rCol, p⟩] S1024x1.size (by rfl) y

/-- The body's condition, true at the first point. -/
abbrev isFirst (i : grid1.Coords) : Prop := k1_cond1 i = 1#1

theorem isFirst_iff : ∀ t : Fin cfg1.N, isFirst (grid1.coords t) ↔ t.val % 4 = 0 :=
  (fun t => by
    have ht : t.val < 4 := Nat.lt_of_lt_of_eq t.isLt N_1
    have e0 : (grid1.coords t 0).val = t.val / 1 % 4 := Pipeline.Grid.coords_val t 0 (by decide) rfl
    simp only [isFirst, k1_cond1, e0]
    word_cmp
   : ∀ t : Fin grid1.N, isFirst (grid1.coords t) ↔ t.val % 4 = 0)

set_option maxHeartbeats 2000000 in
/-- The body at the first point. -/
theorem sound_first (c : Dev nD) (E : Set ℕ) (i : grid1.Coords) (hi : isFirst i) (a1 : Memref sig .tc .vmem S1024x256 .f32) (h1 : a1.IsWhole) (a2 : Memref sig .tc .vmem S1024x256 .f32) (h2 : a2.IsWhole) (a3 : Memref sig .tc .vmem S2048x256 .f32) (h3 : a3.IsWhole) (a4 : Memref sig .tc .vmem S2048x1 .i32) (h4 : a4.IsWhole) (a5 : Memref sig .tc .vmem S1024x1024 .f32) (h5 : a5.IsWhole) (a6 : Memref sig .tc .vmem S1x1 .f32) (h6 : a6.IsWhole) (a7 : Memref sig .tc .vmem S1024x1 .i32) (h7 : a7.IsWhole) (a8 : Memref sig .tc .vmem S1024x256 .f32) (h8 : a8.IsWhole)
    (q : Vec F S1024x256 .f32) (x : Vec F S1024x256 .f32) (rows : Vec F S2048x256 .f32) (ix : Vec F S2048x1 .i32) (K : PUnit → sProp 𝕄) :
    iprop(owns (c : Thread nD τ) a1 fullShare q ∗ owns (c : Thread nD τ) a2 fullShare x ∗ owns (c : Thread nD τ) a3 fullShare rows
        ∗ owns (c : Thread nD τ) a4 fullShare ix ∗ (∃ d, owns (c : Thread nD τ) a5 fullShare d) ∗ (∃ d, owns (c : Thread nD τ) a6 fullShare d)
        ∗ (∃ d, owns (c : Thread nD τ) a7 fullShare d) ∗ (∃ d, owns (c : Thread nD τ) a8 fullShare d)
        ∗ (iprop(owns (c : Thread nD τ) a1 fullShare q ∗ owns (c : Thread nD τ) a2 fullShare x ∗ owns (c : Thread nD τ) a3 fullShare rows
            ∗ owns (c : Thread nD τ) a4 fullShare ix ∗ owns (c : Thread nD τ) a5 fullShare (scores q (quant x rows ix))
            ∗ owns (c : Thread nD τ) a6 fullShare (loss x rows ix) ∗ owns (c : Thread nD τ) a7 fullShare (nearest x rows ix)
            ∗ owns (c : Thread nD τ) a8 fullShare (quant x rows ix)) -∗ K ⟨⟩))
      ⊢ wp frame (wpE (defs₀ (F := F)) Variants.none c none) E (cc1__score_body i a1 h1 a2 h2 a3 h3 a4 h4 a5 h5 a6 h6 a7 h7 a8 h8) K := by
  simp only [cc1__score_body_eq_skeleton]; unfold cc1__score_body_skel
  simp only [k1_part1_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1 hf2 hf3 hf4
  sl_exec (disch := first | sl_exact hi)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (score_cover _)).trans ?_
    delta sound_first.sl.v4 sound_first.sl.H8_1
    rw [View.readCov_eq_canon_ld _ _ _ (mat_cover _)]
    rfl
  isplitl [H6]
  · iexists _; isplitr
    swap; · iexact H6
    ipureintro
    refine (View.read_writes_eq_canon _ _ _ (one_cover _)).trans ?_
    rfl
  isplitl [H7]
  · iexists _; isplitr
    swap; · iexact H7
    ipureintro
    refine (View.read_writes_eq_canon _ _ _ (col_cover _)).trans ?_
    rfl
  iexists _; isplitr
  swap; · iexact H8
  ipureintro
  refine (View.read_writes_eq_canon _ _ _ (mat_cover _)).trans ?_
  rfl

set_option maxHeartbeats 1000000 in
/-- The body at a later point: the index and loss buffers are not touched. -/
theorem sound_later (c : Dev nD) (E : Set ℕ) (i : grid1.Coords) (hi : ¬ isFirst i) (a1 : Memref sig .tc .vmem S1024x256 .f32) (h1 : a1.IsWhole) (a2 : Memref sig .tc .vmem S1024x256 .f32) (h2 : a2.IsWhole) (a3 : Memref sig .tc .vmem S2048x256 .f32) (h3 : a3.IsWhole) (a4 : Memref sig .tc .vmem S2048x1 .i32) (h4 : a4.IsWhole) (a5 : Memref sig .tc .vmem S1024x1024 .f32) (h5 : a5.IsWhole) (a6 : Memref sig .tc .vmem S1x1 .f32) (h6 : a6.IsWhole) (a7 : Memref sig .tc .vmem S1024x1 .i32) (h7 : a7.IsWhole) (a8 : Memref sig .tc .vmem S1024x256 .f32) (h8 : a8.IsWhole)
    (q : Vec F S1024x256 .f32) (s : Vec F S1024x256 .f32) (K : PUnit → sProp 𝕄) :
    iprop(owns (c : Thread nD τ) a1 fullShare q ∗ (∃ d, owns (c : Thread nD τ) a5 fullShare d) ∗ owns (c : Thread nD τ) a8 fullShare s
        ∗ (iprop(owns (c : Thread nD τ) a1 fullShare q ∗ owns (c : Thread nD τ) a5 fullShare (scores q s)
            ∗ owns (c : Thread nD τ) a8 fullShare s) -∗ K ⟨⟩))
      ⊢ wp frame (wpE (defs₀ (F := F)) Variants.none c none) E (cc1__score_body i a1 h1 a2 h2 a3 h3 a4 h4 a5 h5 a6 h6 a7 h7 a8 h8) K := by
  simp only [cc1__score_body_eq_skeleton]; unfold cc1__score_body_skel
  simp only [k1_part1_eq_skeleton]
  unfold owns
  iintro ⟨⟨%f1, %hf1, H1⟩, ⟨%d5, %f5, -, H5⟩, ⟨%f8, %hf8, H8⟩, Hk⟩
  subst hf1 hf8
  sl_exec (disch := first | sl_exact hi)
  sl_step
  iapply Hk
  isplitl [H1]
  · iexists f1; isplitr; · ipureintro; rfl
    iexact H1
  isplitl [H5]
  · iexists _; isplitr
    swap; · iexact H5
    ipureintro
    exact View.read_writes_eq_canon _ _ _ (score_cover _)
  iexists f8; isplitr; · ipureintro; rfl
  iexact H8

section Region

variable (V : (c : Dev nD) → (b : Ref sig .tc) → Buf (Elt F) ((c : Thread nD τ).loc b))

/-! ## The region's proof data -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the first point leaves: the chosen codewords, the chosen indices, the loss. -/
def quantV (c : Dev nD) : Vec F S1024x256 .f32 := quant (blk V c 1 t1_0) (blk V c 2 t1_0) (blk V c 3 t1_0)
def nearestV (c : Dev nD) : Vec F S1024x1 .i32 := nearest (blk V c 1 t1_0) (blk V c 2 t1_0) (blk V c 3 t1_0)
def lossV (c : Dev nD) : Vec F S1x1 .f32 := loss (blk V c 1 t1_0) (blk V c 2 t1_0) (blk V c 3 t1_0)

/-- The scratch buffer, whole. -/
abbrev scratch : Memref sig .tc .vmem S1024x256 .f32 := Memref.whole cc1_scratch0

/-- Between points: the other call's staging buffers at anything, the scratch buffer at the chosen codewords once the
    first point has run, the generator register at anything. -/
def inv (c : Dev nD) (k : Fin (cfg1.N + 1)) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ a, ⌜k.val ≠ 0 → a = quantV V c⌝ ∗ owns (c : Thread nD τ) scratch fullShare a)
    ∗ ∃ r, prngReg c r)

/-- Arrays as entered; after the body each input at its block, the scores of the point's queries, the first point's
    index column and loss; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => scores (blk V c 0 t) (quantV V c)
    | ⟨5, _⟩ => lossV V c
    | ⟨6, _⟩ => nearestV V c
  Φ k := inv V c k
  q _ := fullShare
  owed _ := 0

theorem dat_A (c : Dev nD) (w : Fin cfg1.W) : (dat V c).A w = V c (Pipeline.arrRef spec1 w) := by dsimp only [dat]
theorem dat_after0 (c : Dev nD) (t : Fin cfg1.N) : (dat V c).after 0 t = blk V c 0 t := by dsimp only [dat]
theorem dat_after1 (c : Dev nD) (t : Fin cfg1.N) : (dat V c).after 1 t = blk V c 1 t := by dsimp only [dat]
theorem dat_after2 (c : Dev nD) (t : Fin cfg1.N) : (dat V c).after 2 t = blk V c 2 t := by dsimp only [dat]
theorem dat_after3 (c : Dev nD) (t : Fin cfg1.N) : (dat V c).after 3 t = blk V c 3 t := by dsimp only [dat]
theorem dat_after4 (c : Dev nD) (t : Fin cfg1.N) : (dat V c).after 4 t = scores (blk V c 0 t) (quantV V c) := by dsimp only [dat]
theorem dat_after5 (c : Dev nD) (t : Fin cfg1.N) : (dat V c).after 5 t = lossV V c := by dsimp only [dat]
theorem dat_after6 (c : Dev nD) (t : Fin cfg1.N) : (dat V c).after 6 t = nearestV V c := by dsimp only [dat]

/-- An input's buffer holds its block when the body runs. -/
theorem dat_before0 (c : Dev nD) (t : Fin cfg1.N) (d) : (dat V c).before 0 t d = blk V c 0 t :=
  ((dat V c).before_in_eq_fetched 0 rfl (fun _ => rfl) (fun _ _ _ => rfl)
    (fun t => by rw [dat_after0]; unfold Dat.blockOf blk; rw [dat_A]; try rfl) t d).trans
    (by unfold Dat.fetched Dat.blockOf blk; rw [dat_A]; try rfl)
theorem dat_before1 (c : Dev nD) (t : Fin cfg1.N) (d) : (dat V c).before 1 t d = blk V c 1 t :=
  ((dat V c).before_in_eq_fetched 1 rfl (fun _ => rfl) (fun _ _ _ => rfl)
    (fun t => by rw [dat_after1]; unfold Dat.blockOf blk; rw [dat_A]; try rfl) t d).trans
    (by unfold Dat.fetched Dat.blockOf blk; rw [dat_A]; try rfl)
theorem dat_before2 (c : Dev nD) (t : Fin cfg1.N) (d) : (dat V c).before 2 t d = blk V c 2 t :=
  ((dat V c).before_in_eq_fetched 2 rfl (fun _ => rfl) (fun _ _ _ => rfl)
    (fun t => by rw [dat_after2]; unfold Dat.blockOf blk; rw [dat_A]; try rfl) t d).trans
    (by unfold Dat.fetched Dat.blockOf blk; rw [dat_A]; try rfl)
theorem dat_before3 (c : Dev nD) (t : Fin cfg1.N) (d) : (dat V c).before 3 t d = blk V c 3 t :=
  ((dat V c).before_in_eq_fetched 3 rfl (fun _ => rfl) (fun _ _ _ => rfl)
    (fun t => by rw [dat_after3]; unfold Dat.blockOf blk; rw [dat_A]; try rfl) t d).trans
    (by unfold Dat.fetched Dat.blockOf blk; rw [dat_A]; try rfl)

/-! ## The two outputs that only the first point stores -/

theorem not_isFirst (t : Fin cfg1.N) (ht : t.val ≠ 0) : ¬ isFirst (grid1.coords t) := fun h => by
  have h4 : t.val < 4 := Nat.lt_of_lt_of_eq t.isLt N_1
  have := (isFirst_iff t).mp h
  omega
theorem isFirst_zero (t : Fin cfg1.N) (ht : t.val = 0) : isFirst (grid1.coords t) := (isFirst_iff t).mpr (by rw [ht])

theorem idle5_later (t : Fin cfg1.N) (ht : t.val ≠ 0) : cfg1.idle 5 (cfg1.grid.coords t) = true := by
  show (!(k1_cond1 (grid1.coords t) == 1#1)) = true
  rw [Bool.not_eq_true', beq_eq_false_iff_ne]
  exact not_isFirst t ht
theorem idle6_later (t : Fin cfg1.N) (ht : t.val ≠ 0) : cfg1.idle 6 (cfg1.grid.coords t) = true := idle5_later t ht
theorem idle5_first (t : Fin cfg1.N) (ht : t.val = 0) : cfg1.idle 5 (cfg1.grid.coords t) = false := by
  show (!(k1_cond1 (grid1.coords t) == 1#1)) = false
  rw [Bool.not_eq_false', beq_iff_eq]
  exact isFirst_zero t ht
theorem idle6_first (t : Fin cfg1.N) (ht : t.val = 0) : cfg1.idle 6 (cfg1.grid.coords t) = false := idle5_first t ht

theorem fresh5_later (t : Fin cfg1.N) (ht : t.val ≠ 0) : cfg1.fresh 5 t.val = false := by
  revert t
  decide +kernel
theorem fresh6_later (t : Fin cfg1.N) (ht : t.val ≠ 0) : cfg1.fresh 6 t.val = false := by
  revert t
  decide +kernel

/-- After the first point such a buffer holds what that point stored, -/
theorem before5_later (c : Dev nD) (t : Fin cfg1.N) (ht : t.val ≠ 0) (d) : (dat V c).before 5 t d = lossV V c := by
  rw [(dat V c).before_out_traj 5 rfl (fun _ _ => rfl) (fun t _ _ _ => by rw [dat_after5, dat_after5]) t.val t rfl d,
    fresh5_later t ht, if_neg Bool.false_ne_true, dat_after5]
/-- and hands it back so: a later point leaves it, written back at the last point. -/
theorem leaves5_later (c : Dev nD) (t : Fin cfg1.N) (ht : t.val ≠ 0) :
    owns (c : Thread nD τ) (st1_5 t) fullShare (lossV V c) ⊢ ((dat V c).leavesExact 5 t : sProp 𝕄) := by
  unfold Dat.leavesExact
  rw [idle5_later t ht]
  cases hf : (cfg1.win 5).flush t with
  | false =>
    dsimp only
    iintro H
    iexists (lossV V c)
    rw [before5_later V c t ht]
    iexact H
  | true =>
    dsimp only
    rw [dat_after5]
theorem leaves5_first (c : Dev nD) (t : Fin cfg1.N) (ht : t.val = 0) :
    (dat V c).leavesExact 5 t = (owns (c : Thread nD τ) (st1_5 t) fullShare (lossV V c) : sProp 𝕄) := by
  unfold Dat.leavesExact
  rw [idle5_first t ht]
  dsimp only
  rw [dat_after5]
theorem before6_later (c : Dev nD) (t : Fin cfg1.N) (ht : t.val ≠ 0) (d) : (dat V c).before 6 t d = nearestV V c := by
  rw [(dat V c).before_out_traj 6 rfl (fun _ _ => rfl) (fun t _ _ _ => by rw [dat_after6, dat_after6]) t.val t rfl d,
    fresh6_later t ht, if_neg Bool.false_ne_true, dat_after6]
/-- and hands it back so: a later point leaves it, written back at the last point. -/
theorem leaves6_later (c : Dev nD) (t : Fin cfg1.N) (ht : t.val ≠ 0) :
    owns (c : Thread nD τ) (st1_6 t) fullShare (nearestV V c) ⊢ ((dat V c).leavesExact 6 t : sProp 𝕄) := by
  unfold Dat.leavesExact
  rw [idle6_later t ht]
  cases hf : (cfg1.win 6).flush t with
  | false =>
    dsimp only
    iintro H
    iexists (nearestV V c)
    rw [before6_later V c t ht]
    iexact H
  | true =>
    dsimp only
    rw [dat_after6]
theorem leaves6_first (c : Dev nD) (t : Fin cfg1.N) (ht : t.val = 0) :
    (dat V c).leavesExact 6 t = (owns (c : Thread nD τ) (st1_6 t) fullShare (nearestV V c) : sProp 𝕄) := by
  unfold Dat.leavesExact
  rw [idle6_first t ht]
  dsimp only
  rw [dat_after6]

/-! ## The body obligation -/

/-- What the body is handed at point `t`, -/
def handed (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it hands back. -/
def handedBack (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ (dat V c).leavesExact 5 t ∗ (dat V c).leavesExact 6 t)

theorem point_zero (t : Fin cfg1.N) (ht : t.val = 0) : t = t1_0 := Fin.ext ht

set_option maxHeartbeats 1000000 in
theorem sound_body (c : Dev nD) (t : Fin cfg1.N) :
    handed V c t ⊢ wp frame (wpE (defs₀ (F := F)) Variants.none c none) Set.univ (bodyAt1 t) (fun _ => handedBack V c t) := by
  unfold handed handedBack bodyAt1
  simp only [dat_before0, dat_before1, dat_before2, dat_before3]
  rw [show (dat V c).Φ t.succ = inv V c t.succ from rfl, show (dat V c).Φ t.castSucc = inv V c t.castSucc from rfl,
    show (dat V c).owesAt () t.succ = (dat V c).owesAt () t.castSucc from rfl,
    dat_after0, dat_after1, dat_after2, dat_after3, dat_after4]
  unfold inv
  rw [exists_held (show t.succ.val ≠ 0 from Nat.succ_ne_zero _)]
  by_cases h0 : t.val = 0
  · rw [leaves5_first V c t h0, leaves6_first V c t h0]
    iintro ⟨⟨Hs0, Hs1, Hs2, ⟨%a, -, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_first c Set.univ (grid1.coords t) (isFirst_zero t h0) _ _ _ _ _ _ _ _ _ _ _ _ _ _ _ _
      (blk V c 0 t) (blk V c 1 t) (blk V c 2 t) (blk V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexists _; iexact HS
    obtain rfl := point_zero t h0
    unfold quantV lossV nearestV
    iintro ⟨H0, H1, H2, H3, H4, H5, H6, HS⟩
    isplitl [Hs0 Hs1 Hs2 HS Hg]
    · isplitl [Hs0]; · iexact Hs0
      isplitl [Hs1]; · iexact Hs1
      isplitl [Hs2]; · iexact Hs2
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [exists_held (show t.castSucc.val ≠ 0 from h0)]
    simp only [before5_later V c t h0, before6_later V c t h0]
    iintro ⟨⟨Hs0, Hs1, Hs2, HS, Hg⟩, Ho, ⟨%d0, H0⟩, ⟨%d1, H1⟩, ⟨%d2, H2⟩, ⟨%d3, H3⟩, ⟨%d4, H4⟩, ⟨%d5, H5⟩, ⟨%d6, H6⟩⟩
    iapply (sound_later c Set.univ (grid1.coords t) (not_isFirst t h0) _ _ _ _ _ _ _ _ _ _ _ _ _ _ _ _
      (blk V c 0 t) (quantV V c) _)
    isplitl [H0]; · iexact H0
    isplitl [H4]; · iexists _; iexact H4
    isplitl [HS]; · iexact HS
    iintro ⟨H0, H4, HS⟩
    isplitl [Hs0 Hs1 Hs2 HS Hg]
    · isplitl [Hs0]; · iexact Hs0
      isplitl [Hs1]; · iexact Hs1
      isplitl [Hs2]; · iexact Hs2
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5_later V c t h0); iexact H5
    iapply (leaves6_later V c t h0); iexact H6

theorem body_row (t : Fin cfg1.N) : defs₀ (F := F) .tc cfg1.body (cfg1.bodyArgs t (cfg1.slots t)) = bodyAt1 t := by
  unfold defs₀; rw [Defs.onTc_tc]

theorem body_obligation (c : Dev nD) : BodyObligation (dat (F := F) V c) (defs₀ (F := F)) Variants.none () Set.univ := fun t => by
  rw [bigSep_W1, bigSep_W1, body_row]
  exact triple_restated (sound_body V c t) rfl .rfl fun _ => .rfl

/-! ## The invariant at the region's ends -/

/-- The region's other scoped buffers and the generator register are the invariant before the first point, -/
theorem inv_enter (c : Dev nD) :
    iprop(Pipeline.scopedRest (Ix := Unit) (Name := ℕ) (U := UR sig nD τ) (Lvl := ℕ) (Val := Elt F) spec1 c ∗ ∃ r, prngReg c r)
      ⊢ (inv V c 0 : sProp 𝕄) := by
  rw [scopedRest1_eq]; unfold inv
  simp only [scratch, owns_whole]
  iintro ⟨⟨H0, H1, H2, ⟨%a, HS⟩⟩, Hg⟩
  isplitl [H0]; · iexact H0
  isplitl [H1]; · iexact H1
  isplitl [H2]; · iexact H2
  isplitl [HS]
  · iexists a; isplitr
    · ipureintro; exact fun h => absurd rfl h
    iexact HS
  iexact Hg

/-- and after the last point the invariant gives them back. -/
theorem inv_leave (c : Dev nD) (k : Fin (cfg1.N + 1)) :
    (inv V c k : sProp 𝕄)
      ⊢ iprop(Pipeline.scopedRest (Ix := Unit) (Name := ℕ) (U := UR sig nD τ) (Lvl := ℕ) (Val := Elt F) spec1 c ∗ ∃ r, prngReg c r) := by
  rw [scopedRest1_eq]; unfold inv
  simp only [scratch, owns_whole]
  iintro ⟨H0, H1, H2, ⟨%a, -, HS⟩, Hg⟩
  isplitr [Hg]
  · isplitl [H0]; · iexact H0
    isplitl [H1]; · iexact H1
    isplitl [H2]; · iexact H2
    iexists a; iexact HS
  iexact Hg

end Region

end Cert.KernelIdeal.Score

end
-- ==== Proof.KernelIdeal.Run.lean ====
/-
  The run of @main: the first call, the host operations that gather the candidate codewords, the second call, the
  closing reshapes. The buffer contents at every boundary are a fold from the launch memory (`W0` to `W4`); the run
  ends with every unscoped buffer at `W4` and every counter at zero.
-/
module

public import proofs.«01_k».proof.Proof.KernelIdeal.Top2
public import proofs.«01_k».proof.Proof.KernelIdeal.Score
public import Idealize.ShloMosaic.Lib.Pipeline.RegionsLoop

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2]

/-! ## The host operations, and the references they write -/

theorem hostOps1_fresh : (hostOps1 : List (HloOp τ sig (Elt F))).Forall fun op => op.fresh = ∅ := by
  simp only [List.Forall]; repeat' constructor
/-- What the operations between the calls write, in order. -/
abbrev hostOps1_W : List (Ref sig .tc) := [main_v1, main_c, main_v2, main_v3, main_c_0, main_v4, main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- What the closing reshapes write. -/
abbrev hostOps2_W : List (Ref sig .tc) := [main_v10, main_v11]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-! ## The buffer contents at each boundary -/

/-- At launch, where the first call is entered; -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- after the first call, its arrays at what the pipeline leaves; -/
def W1 (c : Dev nD) : Valuation τ sig (Elt F) :=
  Pipeline.withArrays spec0 c (W0 m ρ c) fun w => (Top2.dat (V0 m ρ) c).arrAt w cfg0.N
theorem W1_arr (c : Dev nD) (w : Fin cfg0.W) :
    W1 m ρ c (Proc.devRef .tc (Pipeline.arrRef spec0 w)) = (Top2.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of the first call's outputs keeps its contents across it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Top2.dat (V0 m ρ) c).arrAt_in w (h w rfl) _).trans (Top2.dat_A (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (Top2.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- after the host operations, where the second call is entered; -/
abbrev W2 : Dev nD → Valuation τ sig (Elt F) := fun c => StableHlo.after hostOps1 (W1 m ρ c)
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- after the second call; -/
def W3 (c : Dev nD) : Valuation τ sig (Elt F) :=
  Pipeline.withArrays spec1 c (W2 m ρ c) fun w => (Score.dat (V2 m ρ) c).arrAt w cfg1.N
theorem W3_arr (c : Dev nD) (w : Fin cfg1.W) :
    W3 m ρ c (Proc.devRef .tc (Pipeline.arrRef spec1 w)) = (Score.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of the second call's outputs keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Score.dat (V2 m ρ) c).arrAt_in w (h w rfl) _).trans (Score.dat_A (V2 m ρ) c w))
  · exact W3_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
theorem hF1 (c : Dev nD) (w : Fin cfg1.W) : (Score.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- at the end. -/
abbrev W4 : Dev nD → Valuation τ sig (Elt F) := fun c => StableHlo.after hostOps2 (W3 m ρ c)
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

abbrev adm : (p : Fin 2) → (pcfgs (F := F) p).Adm := fun p => (cfgs p).toPCfg_adm
/-- Each call's proof data at its entry contents. -/
def pdats : (p : Fin 2) → (c : Dev nD) → Dat τ (Elt F) Unit ℕ (UR sig nD τ) ℕ (Pipeline.pin (pcfgs (F := F)) adm p) c
  | ⟨0, _⟩ => fun c => Top2.dat (V0 m ρ) c
  | ⟨1, _⟩ => fun c => Score.dat (V2 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Top2.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Top2.dat_A (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Score.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (Score.dat_A (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Score.inv (V2 m ρ) c 0 from rfl]
    iintro ⟨Hp, -, Hr⟩
    iapply (Score.inv_enter (V2 m ρ) c)
    isplitl [Hr]; · iexact Hr
    iexact Hp
  hout c := by
    rw [Pipeline.ownSems0_none, show (pdats m ρ 1 c).Φ (Fin.last _) = Score.inv (V2 m ρ) c (Fin.last _) from rfl]
    iintro H
    ihave H := (Score.inv_leave (V2 m ρ) c (Fin.last _)) $$ H
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- The run: every unscoped buffer ends at `W4`, every counter at zero. -/
theorem run : θ_run defs (onTc (τ := τ) (main (F := F))) ⟨m, fun _ => 0, ρ⟩ (fun r =>
      (∀ (c : Dev nD) (b : Ref sig .tc), ¬ (Proc.devRef .tc b : DevRef τ sig).isScoped → r.2.mem ((c : Thread nD τ).loc b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c b hb => h c _ (mem_uc b hb), funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_arg0 (by decide)).trans (W4_main_arg0 m ρ c),
     (h.1 c main_arg1 (by decide)).trans (W4_main_arg1 m ρ c),
     (h.1 c main_arg2 (by decide)).trans (W4_main_arg2 m ρ c)⟩, h.2⟩) (run m ρ)

end Cert.KernelIdeal.Run

end
-- ==== Proof.KernelIdeal.Results.lean ====
/-
  What the kernel's run leaves in its three results, as functions of the three arguments: the entities' index column
  of the first call, the gathered candidate rows, and what the second call makes of them.
-/
module

public import proofs.«01_k».proof.Proof.KernelIdeal.Run
public import Idealize.ShloMosaic.Lib.Pipeline.ValueKit
public import Idealize.ShloMosaic.Lib.ValueIdxCore

@[expose] public section

set_option maxRecDepth 16384

noncomputable section

namespace Cert.KernelIdeal.Results

open Cert.KernelIdeal Cert.KernelIdeal.Gen Cert.KernelIdeal.Run
open Idealize.ShloMosaic Idealize.ShloMosaic.TcCoe Idealize.ShloMosaic.Tactic
open Idealize.SL Idealize.SL.Sem
open Idealize.ShloMosaic.Pipeline (Dat)

variable {F : FTy → Type} [FloatOps F]

/-! ## The results as terms -/

/-- The candidates' rows, gathered from the codebook at the index column. -/
def rows (cb : FVec F S512x256 .f32) (ix : IVec S2048x1 32) : FVec F S2048x256 .f32 :=
  let flat : IVec S2048 32 := shapeCast S2048 ix shapeCasts_S2048x1_S2048
  Host.gather gather_S512x256_S2048x1_S2048x256_1_0_n_n_0_1_1256 cb (broadcastInDim S2048x1 ![0] bcast_S2048_S2048x1_0
    (select (cmpi .slt flat (broadcastInDim S2048 ![] bcast_S_S2048 (constantI S_ 32 0#32)))
      (addi flat (broadcastInDim S2048 ![] bcast_S_S2048 (constantI S_ 32 512#32))) flat))

section Values

variable (m : (ℓ : Loc nD τ sig) → Buf (Elt F) ℓ) (ρ : Dev nD → PrngReg)

/-- Every window's block index of the first call, at its one point (decided). -/
theorem idx0 : ∀ t : Fin cfg0.N, win0_0.index t = ![0, 0] ∧ win0_1.index t = ![0, 0] ∧ win0_2.index t = ![0, 0] :=
  (by decide +kernel : ∀ t : Fin grid0.N, _)

theorem blk0_0 (c : Dev nD) : Top2.blk (V0 m ρ) c 0 t0_0 = m ((c : Thread nD τ).loc main_arg1) := by
  blk_ext! [Top2.blk, V0, W0, s₀, idx0 t0_0]
theorem blk0_1 (c : Dev nD) : Top2.blk (V0 m ρ) c 1 t0_0 = m ((c : Thread nD τ).loc main_arg2) := by
  blk_ext! [Top2.blk, V0, W0, s₀, idx0 t0_0]

/-- The first call's output: the index column of the entities and the codebook. -/
theorem arr0 (c : Dev nD) : (Top2.dat (V0 m ρ) c).arrAt 2 cfg0.N
    = Top2.column (m ((c : Thread nD τ).loc main_arg1)) (m ((c : Thread nD τ).loc main_arg2)) := by
  refine (Top2.dat (V0 m ρ) c).arrAt_eq_of_after_last 2 t0_0 (by decide +kernel) _ fun j => ?_
  blk_simp
  rw [Top2.dat_after2, blk0_0, blk0_1]

/-- After the first call the index column; -/
theorem W1_v0 (c : Dev nD) : W1 m ρ c (Proc.devRef .tc main_v0)
    = Top2.column (m ((c : Thread nD τ).loc main_arg1)) (m ((c : Thread nD τ).loc main_arg2)) :=
  (W1_arr m ρ c 2).trans (arr0 m ρ c)

/-- the second call finds it there, -/
theorem V2_v0 (c : Dev nD) : V2 m ρ c main_v0
    = Top2.column (m ((c : Thread nD τ).loc main_arg1)) (m ((c : Thread nD τ).loc main_arg2)) :=
  (W2_of m ρ c main_v0 (by decide)).trans (W1_v0 m ρ c)

/-- and the candidates' rows. -/
theorem V2_v8 (c : Dev nD) : V2 m ρ c main_v8
    = rows (m ((c : Thread nD τ).loc main_arg2)) (Top2.column (m ((c : Thread nD τ).loc main_arg1)) (m ((c : Thread nD τ).loc main_arg2))) := by
  rw [← W1_v0 m ρ c, ← W1_args m ρ c main_arg2 (by decide)]
  show StableHlo.after hostOps1 (W1 m ρ c) (Proc.devRef .tc main_v8) = _
  after_results_simp
  rfl

/-- Every window's block index of the second call (decided). -/
theorem idx1 : ∀ t : Fin cfg1.N, win1_0.index t = ![t.val, 0] ∧ win1_1.index t = ![0, 0] ∧ win1_2.index t = ![0, 0]
    ∧ win1_3.index t = ![0, 0] ∧ win1_4.index t = ![t.val, 0] ∧ win1_5.index t = ![0, 0] ∧ win1_6.index t = ![0, 0] :=
  (by decide +kernel : ∀ t : Fin grid1.N, _)

theorem blk1_1 (c : Dev nD) : Score.blk (V2 m ρ) c 1 t1_0 = V2 m ρ c main_arg1 := by
  blk_ext! [Score.blk, idx1 t1_0]
theorem blk1_2 (c : Dev nD) : Score.blk (V2 m ρ) c 2 t1_0 = V2 m ρ c main_v8 := by
  blk_ext! [Score.blk, idx1 t1_0]
theorem blk1_3 (c : Dev nD) : Score.blk (V2 m ρ) c 3 t1_0 = V2 m ρ c main_v0 := by
  blk_ext! [Score.blk, idx1 t1_0]

/-- The chosen codewords, the chosen indices and the loss, of the arguments. -/
def quantOf (x : FVec F S1024x256 .f32) (cb : FVec F S512x256 .f32) : FVec F S1024x256 .f32 :=
  Score.quant x (rows cb (Top2.column x cb)) (Top2.column x cb)
def nearestOf (x : FVec F S1024x256 .f32) (cb : FVec F S512x256 .f32) : IVec S1024x1 32 :=
  Score.nearest x (rows cb (Top2.column x cb)) (Top2.column x cb)
def lossOf (x : FVec F S1024x256 .f32) (cb : FVec F S512x256 .f32) : FVec F S1x1 .f32 :=
  Score.loss x (rows cb (Top2.column x cb)) (Top2.column x cb)

theorem V2_arg0 (c : Dev nD) : V2 m ρ c main_arg0 = m ((c : Thread nD τ).loc main_arg0) := W2_args m ρ c main_arg0 (by decide)
theorem V2_arg1 (c : Dev nD) : V2 m ρ c main_arg1 = m ((c : Thread nD τ).loc main_arg1) := W2_args m ρ c main_arg1 (by decide)

theorem quantV_eq (c : Dev nD) : Score.quantV (V2 m ρ) c = quantOf (m ((c : Thread nD τ).loc main_arg1)) (m ((c : Thread nD τ).loc main_arg2)) := by
  unfold Score.quantV quantOf
  rw [blk1_1, blk1_2, blk1_3, V2_arg1, V2_v8, V2_v0]
theorem nearestV_eq (c : Dev nD) : Score.nearestV (V2 m ρ) c = nearestOf (m ((c : Thread nD τ).loc main_arg1)) (m ((c : Thread nD τ).loc main_arg2)) := by
  unfold Score.nearestV nearestOf
  rw [blk1_1, blk1_2, blk1_3, V2_arg1, V2_v8, V2_v0]
theorem lossV_eq (c : Dev nD) : Score.lossV (V2 m ρ) c = lossOf (m ((c : Thread nD τ).loc main_arg1)) (m ((c : Thread nD τ).loc main_arg2)) := by
  unfold Score.lossV lossOf
  rw [blk1_1, blk1_2, blk1_3, V2_arg1, V2_v8, V2_v0]

/-- Rows `1024·t` to `1024·t + 1023` of the queries. -/
def queryBlock (q : FVec F S4096x256 .f32) (t : Fin 4) : FVec F S1024x256 .f32 :=
  fun y => q (ValueIdx.ix2 (n0 := 4096) (n1 := 256) ⟨t.val * 1024 + (y 0).val, by have := t.isLt; have := ValueIdx.idx2_lt0 y; omega⟩ (y 1))

/-- The scores, block of rows by block of rows. -/
def scoresOf (q : FVec F S4096x256 .f32) (s : FVec F S1024x256 .f32) : FVec F S4096x1024 .f32 := fun i =>
  Score.scores (queryBlock q ⟨(i 0).val / 1024, by have := ValueIdx.idx2_lt0 i; omega⟩) s
    (ValueIdx.ix2 (n0 := 1024) (n1 := 1024) ⟨(i 0).val % 1024, Nat.mod_lt _ (by decide)⟩ (i 1))

theorem blk1_0 (c : Dev nD) (t : Fin cfg1.N) : Score.blk (V2 m ρ) c 0 t = queryBlock (m ((c : Thread nD τ).loc main_arg0)) ⟨t.val, Nat.lt_of_lt_of_eq t.isLt N_1⟩ := by
  rw [← V2_arg0 m ρ c]
  unfold queryBlock
  blk_ext! [Score.blk, idx1 t]

/-- The second call's outputs. -/
theorem arr4 (c : Dev nD) : (Score.dat (V2 m ρ) c).arrAt 4 cfg1.N
    = scoresOf (m ((c : Thread nD τ).loc main_arg0)) (quantOf (m ((c : Thread nD τ).loc main_arg1)) (m ((c : Thread nD τ).loc main_arg2))) := by
  refine (Score.dat (V2 m ρ) c).arrAt_eq_of_covers 4 _ (by decide +kernel) fun t hf y => ?_
  blk_simp
  rw [Score.dat_after4, blk1_0, quantV_eq]
  unfold scoresOf
  have hy : (y 0).val < 1024 := ValueIdx.idx2_lt0 (n0 := 1024) (n1 := 1024) y
  have ht : t.val < 4 := Nat.lt_of_lt_of_eq t.isLt N_1
  congr 1
  · congr 2
    blk_simp [idx1 t]
    omega
  · funext a
    match a with
    | ⟨0, _⟩ =>
      refine Fin.ext ?_
      show (y 0).val = (((win1_4.blk t).view.emb y) 0).val % 1024
      blk_simp [idx1 t]
      omega
    | ⟨1, _⟩ =>
      refine Fin.ext ?_
      show (y 1).val = (((win1_4.blk t).view.emb y) 1).val
      blk_simp [idx1 t]

theorem arr5 (c : Dev nD) : (Score.dat (V2 m ρ) c).arrAt 5 cfg1.N
    = lossOf (m ((c : Thread nD τ).loc main_arg1)) (m ((c : Thread nD τ).loc main_arg2)) := by
  refine (Score.dat (V2 m ρ) c).arrAt_eq_of_after_last 5 t1_3 (by decide +kernel) _ fun j => ?_
  blk_simp
  rw [Score.dat_after5, lossV_eq]

theorem arr6 (c : Dev nD) : (Score.dat (V2 m ρ) c).arrAt 6 cfg1.N
    = nearestOf (m ((c : Thread nD τ).loc main_arg1)) (m ((c : Thread nD τ).loc main_arg2)) := by
  refine (Score.dat (V2 m ρ) c).arrAt_eq_of_after_last 6 t1_3 (by decide +kernel) _ fun j => ?_
  blk_simp
  rw [Score.dat_after6, nearestV_eq]

/-- The results at the end of the run. -/
theorem W4_scores (c : Dev nD) : W4 m ρ c (Proc.devRef .tc main_v9_0)
    = scoresOf (m ((c : Thread nD τ).loc main_arg0)) (quantOf (m ((c : Thread nD τ).loc main_arg1)) (m ((c : Thread nD τ).loc main_arg2))) :=
  (W4_of m ρ c main_v9_0 (by decide)).trans ((W3_arr m ρ c 4).trans (arr4 m ρ c))
theorem W4_loss (c : Dev nD) : W4 m ρ c (Proc.devRef .tc main_v10)
    = shapeCast S_ (lossOf (m ((c : Thread nD τ).loc main_arg1)) (m ((c : Thread nD τ).loc main_arg2))) shapeCasts_S1x1_S_ := by
  rw [← arr5 m ρ c, ← W3_arr m ρ c 5]
  show StableHlo.after hostOps2 (W3 m ρ c) (Proc.devRef .tc main_v10) = _
  after_results_simp
  rfl
theorem W4_nearest (c : Dev nD) : W4 m ρ c (Proc.devRef .tc main_v11)
    = shapeCast S1024 (nearestOf (m ((c : Thread nD τ).loc main_arg1)) (m ((c : Thread nD τ).loc main_arg2))) shapeCasts_S1024x1_S1024 := by
  rw [← arr6 m ρ c, ← W3_arr m ρ c 6]
  show StableHlo.after hostOps2 (W3 m ρ c) (Proc.devRef .tc main_v11) = _
  after_results_simp
  rfl

end Values

end Cert.KernelIdeal.Results

end
-- ==== Proof.ReferenceIdeal.Run.lean ====
/-
  The reference's run: @main as the list of its host operations, and its three results as terms of the arguments.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, the called functions' in their calls' places. -/
abbrev ops : List (HloOp τ sig (Elt F)) :=
  [ unary main_arg1 main_v0 (broadcastInDim S1024x1x256 ![0, 2] bcast_S1024x256_S1024x1x256_0_2 : (⟨S1024x256, .f32⟩ : BufTy).Contents (Elt F) → (⟨S1024x1x256, .f32⟩ : BufTy).Contents (Elt F)),
    unary main_arg2 main_v1 (broadcastInDim S1x512x256 ![1, 2] bcast_S512x256_S1x512x256_1_2 : (⟨S512x256, .f32⟩ : BufTy).Contents (Elt F) → (⟨S1x512x256, .f32⟩ : BufTy).Contents (Elt F)),
    unary main_v0 main_v2 (broadcastInDim S1024x512x256 ![0, 1, 2] bcast_S1024x1x256_S1024x512x256_0_1_2 : (⟨S1024x1x256, .f32⟩ : BufTy).Contents (Elt F) → (⟨S1024x512x256, .f32⟩ : BufTy).Contents (Elt F)),
    unary main_v1 main_v3 (broadcastInDim S1024x512x256 ![0, 1, 2] bcast_S1x512x256_S1024x512x256_0_1_2 : (⟨S1x512x256, .f32⟩ : BufTy).Contents (Elt F) → (⟨S1024x512x256, .f32⟩ : BufTy).Contents (Elt F)),
    binary main_v2 main_v3 main_v4 (subf : (⟨S1024x512x256, .f32⟩ : BufTy).Contents (Elt F) → (⟨S1024x512x256, .f32⟩ : BufTy).Contents (Elt F) → (⟨S1024x512x256, .f32⟩ : BufTy).Contents (Elt F)),
    TRef.binary (TRef.of (T := ⟨S1024x512x256, .f32⟩) main_v4) (TRef.of (T := ⟨S1024x512x256, .f32⟩) main_v4) (TRef.of (T := ⟨S1024x512x256, .f32⟩) main_call0_v0) mulf,
    TRef.nullary (TRef.of (T := ⟨S_, .f32⟩) main_call0_cst) (constant S_ .f32 0x00000000#32),
    TRef.binary (TRef.of (T := ⟨S1024x512x256, .f32⟩) main_call0_v0) (TRef.of (T := ⟨S_, .f32⟩) main_call0_cst) (TRef.of (T := ⟨S1024x512, .f32⟩) main_call0_v1) (fun x v => Host.reduceAdd x v reducesTo_S1024x512x256_S1024x512_d2 h_S_),
    TRef.unary (TRef.of (T := ⟨S1024x512, .f32⟩) main_call0_v1) (TRef.of (T := ⟨S1024x512, .f32⟩) main_v5) Host.sqrt,
    TRef.nullary (TRef.of (T := ⟨S1024x512, .i32⟩) main_call1_v0) (iotaInDim S1024x512 32 1),
    TRef.nullary (TRef.of (T := ⟨S_, .f32⟩) main_call1_cst) (constant S_ .f32 0x7F800000#32),
    TRef.nullary (TRef.of (T := ⟨S_, .i32⟩) main_call1_c) (constantI S_ 32 0#32),
    TRef.quaternary (TRef.of (T := ⟨S1024x512, .f32⟩) main_v5) (TRef.of (T := ⟨S1024x512, .i32⟩) main_call1_v0) (TRef.of (T := ⟨S_, .f32⟩) main_call1_cst) (TRef.of (T := ⟨S_, .i32⟩) main_call1_c) (TRef.of (T := ⟨S1024, .f32⟩) main_call1_v1_0) (fun x y u v j => (Host.argReduce reducer_argmin_f32_i32 x y u v reducesTo_S1024x512_S1024_d1 h_S_ j).1),
    TRef.quaternary (TRef.of (T := ⟨S1024x512, .f32⟩) main_v5) (TRef.of (T := ⟨S1024x512, .i32⟩) main_call1_v0) (TRef.of (T := ⟨S_, .f32⟩) main_call1_cst) (TRef.of (T := ⟨S_, .i32⟩) main_call1_c) (TRef.of (T := ⟨S1024, .i32⟩) main_v6) (fun x y u v j => (Host.argReduce reducer_argmin_f32_i32 x y u v reducesTo_S1024x512_S1024_d1 h_S_ j).2),
    nullary main_c (constantI S_ 32 0#32),
    unary main_c main_v7 (broadcastInDim S1024 ![] bcast_S_S1024 : (⟨S_, .i32⟩ : BufTy).Contents (Elt F) → (⟨S1024, .i32⟩ : BufTy).Contents (Elt F)),
    binary main_v6 main_v7 main_v8 (cmpi .slt : (⟨S1024, .i32⟩ : BufTy).Contents (Elt F) → (⟨S1024, .i32⟩ : BufTy).Contents (Elt F) → (⟨S1024, .i1⟩ : BufTy).Contents (Elt F)),
    nullary main_c_0 (constantI S_ 32 512#32),
    unary main_c_0 main_v9 (broadcastInDim S1024 ![] bcast_S_S1024 : (⟨S_, .i32⟩ : BufTy).Contents (Elt F) → (⟨S1024, .i32⟩ : BufTy).Contents (Elt F)),
    binary main_v6 main_v9 main_v10 (addi : (⟨S1024, .i32⟩ : BufTy).Contents (Elt F) → (⟨S1024, .i32⟩ : BufTy).Contents (Elt F) → (⟨S1024, .i32⟩ : BufTy).Contents (Elt F)),
    ternary main_v8 main_v10 main_v6 main_v11 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v11 main_v12 (broadcastInDim S1024x1 ![0] bcast_S1024_S1024x1_0 : (⟨S1024, .i32⟩ : BufTy).Contents (Elt F) → (⟨S1024x1, .i32⟩ : BufTy).Contents (Elt F)),
    binary main_arg2 main_v12 main_v13 ((fun x i => Host.gather gather_S512x256_S1024x1_S1024x256_1_0_n_n_0_1_1256 x i) : (⟨S512x256, .f32⟩ : BufTy).Contents (Elt F) → (⟨S1024x1, .i32⟩ : BufTy).Contents (Elt F) → (⟨S1024x256, .f32⟩ : BufTy).Contents (Elt F)),
    binary main_v13 main_arg1 main_v14 (subf : (⟨S1024x256, .f32⟩ : BufTy).Contents (Elt F) → (⟨S1024x256, .f32⟩ : BufTy).Contents (Elt F) → (⟨S1024x256, .f32⟩ : BufTy).Contents (Elt F)),
    binary main_v14 main_v14 main_v15 (mulf : (⟨S1024x256, .f32⟩ : BufTy).Contents (Elt F) → (⟨S1024x256, .f32⟩ : BufTy).Contents (Elt F) → (⟨S1024x256, .f32⟩ : BufTy).Contents (Elt F)),
    nullary main_cst (constant S_ .f32 0x00000000#32),
    binary main_v15 main_cst main_v16 ((fun x v => Host.reduceAdd x v reducesTo_S1024x256_S_d0_1 h_S_) : (⟨S1024x256, .f32⟩ : BufTy).Contents (Elt F) → (⟨S_, .f32⟩ : BufTy).Contents (Elt F) → (⟨S_, .f32⟩ : BufTy).Contents (Elt F)),
    nullary main_cst_1 (constant S_ .f32 0x48800000#32),
    binary main_v16 main_cst_1 main_v17 (Host.divf : (⟨S_, .f32⟩ : BufTy).Contents (Elt F) → (⟨S_, .f32⟩ : BufTy).Contents (Elt F) → (⟨S_, .f32⟩ : BufTy).Contents (Elt F)),
    binary main_v13 main_arg1 main_v18 (subf : (⟨S1024x256, .f32⟩ : BufTy).Contents (Elt F) → (⟨S1024x256, .f32⟩ : BufTy).Contents (Elt F) → (⟨S1024x256, .f32⟩ : BufTy).Contents (Elt F)),
    binary main_v18 main_v18 main_v19 (mulf : (⟨S1024x256, .f32⟩ : BufTy).Contents (Elt F) → (⟨S1024x256, .f32⟩ : BufTy).Contents (Elt F) → (⟨S1024x256, .f32⟩ : BufTy).Contents (Elt F)),
    nullary main_cst_2 (constant S_ .f32 0x00000000#32),
    binary main_v19 main_cst_2 main_v20 ((fun x v => Host.reduceAdd x v reducesTo_S1024x256_S_d0_1 h_S_) : (⟨S1024x256, .f32⟩ : BufTy).Contents (Elt F) → (⟨S_, .f32⟩ : BufTy).Contents (Elt F) → (⟨S_, .f32⟩ : BufTy).Contents (Elt F)),
    nullary main_cst_3 (constant S_ .f32 0x48800000#32),
    binary main_v20 main_cst_3 main_v21 (Host.divf : (⟨S_, .f32⟩ : BufTy).Contents (Elt F) → (⟨S_, .f32⟩ : BufTy).Contents (Elt F) → (⟨S_, .f32⟩ : BufTy).Contents (Elt F)),
    nullary main_cst_4 (constant S_ .f32 0x3E800000#32),
    binary main_cst_4 main_v21 main_v22 (mulf : (⟨S_, .f32⟩ : BufTy).Contents (Elt F) → (⟨S_, .f32⟩ : BufTy).Contents (Elt F) → (⟨S_, .f32⟩ : BufTy).Contents (Elt F)),
    binary main_v17 main_v22 main_v23 (addf : (⟨S_, .f32⟩ : BufTy).Contents (Elt F) → (⟨S_, .f32⟩ : BufTy).Contents (Elt F) → (⟨S_, .f32⟩ : BufTy).Contents (Elt F)),
    unary main_v13 main_v24 ((transpose S256x1024 [1, 0] · transposes_S1024x256_S256x1024_1_0) : (⟨S1024x256, .f32⟩ : BufTy).Contents (Elt F) → (⟨S256x1024, .f32⟩ : BufTy).Contents (Elt F)),
    binary main_arg0 main_v24 main_v25 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)) ]

theorem main_eq (c : Dev nD) : main (F := F) c = seq ops := rfl
theorem no_scoped_refs : (Finset.univ.filter fun b : Ref sig .tc => b.isScoped) = ∅ := by decide
theorem no_scoped_sems : (Finset.univ.filter fun sm : SemLoc sig => sm.isScoped .tc) = ∅ := by decide
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., unary_bufs_sub .., binary_bufs_sub ..⟩

/-! ## The results as terms of the arguments -/

/-- Every entity minus every codeword. -/
def differences (x : FVec F S1024x256 .f32) (cb : FVec F S512x256 .f32) : FVec F S1024x512x256 .f32 :=
  subf (broadcastInDim S1024x512x256 ![0, 1, 2] bcast_S1024x1x256_S1024x512x256_0_1_2 (broadcastInDim S1024x1x256 ![0, 2] bcast_S1024x256_S1024x1x256_0_2 x))
    (broadcastInDim S1024x512x256 ![0, 1, 2] bcast_S1x512x256_S1024x512x256_0_1_2 (broadcastInDim S1x512x256 ![1, 2] bcast_S512x256_S1x512x256_1_2 cb))

/-- Every entity's distance to every codeword. -/
def distances (x : FVec F S1024x256 .f32) (cb : FVec F S512x256 .f32) : FVec F S1024x512 .f32 :=
  Host.sqrt (Host.reduceAdd (mulf (differences x cb) (differences x cb)) (constant S_ .f32 0x00000000#32) reducesTo_S1024x512x256_S1024x512_d2 h_S_)

/-- Every entity's nearest codeword. -/
def nearest (x : FVec F S1024x256 .f32) (cb : FVec F S512x256 .f32) : IVec S1024 32 := fun j =>
  (Host.argReduce reducer_argmin_f32_i32 (distances x cb) (iotaInDim S1024x512 32 1) (constant S_ .f32 0x7F800000#32) (constantI S_ 32 0#32)
    reducesTo_S1024x512_S1024_d1 h_S_ j).2

/-- The rows an index column names. -/
def rows (cb : FVec F S512x256 .f32) (ix : IVec S1024 32) : FVec F S1024x256 .f32 :=
  Host.gather gather_S512x256_S1024x1_S1024x256_1_0_n_n_0_1_1256 cb (broadcastInDim S1024x1 ![0] bcast_S1024_S1024x1_0
    (select (cmpi .slt ix (broadcastInDim S1024 ![] bcast_S_S1024 (constantI S_ 32 0#32)))
      (addi ix (broadcastInDim S1024 ![] bcast_S_S1024 (constantI S_ 32 512#32))) ix))

/-- The mean squared difference. -/
def meanSq (q x : FVec F S1024x256 .f32) : FVec F S_ .f32 :=
  Host.divf (Host.reduceAdd (mulf (subf q x) (subf q x)) (constant S_ .f32 0x00000000#32) reducesTo_S1024x256_S_d0_1 h_S_) (constant S_ .f32 0x48800000#32)

/-- The loss. -/
def loss (q x : FVec F S1024x256 .f32) : FVec F S_ .f32 :=
  addf (meanSq q x) (mulf (constant S_ .f32 0x3E800000#32) (meanSq q x))

/-- The scores. -/
def scores (query : FVec F S4096x256 .f32) (q : FVec F S1024x256 .f32) : FVec F S4096x1024 .f32 :=
  Host.dotGeneral dot_S4096x256_S256x1024_S4096x1024_1_0_0_1_n_n none query (transpose S256x1024 [1, 0] q transposes_S1024x256_S256x1024_1_0)

set_option maxHeartbeats 2000000 in
/-- The run: the results, the arguments unchanged, every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v25) = scores (m ((c.tc : Thread nD τ).loc main_arg0))
          (rows (m ((c.tc : Thread nD τ).loc main_arg2)) (nearest (m ((c.tc : Thread nD τ).loc main_arg1)) (m ((c.tc : Thread nD τ).loc main_arg2))))
      ∧ r.2.mem ((c.tc : Thread nD τ).loc main_v23) = loss (rows (m ((c.tc : Thread nD τ).loc main_arg2))
          (nearest (m ((c.tc : Thread nD τ).loc main_arg1)) (m ((c.tc : Thread nD τ).loc main_arg2)))) (m ((c.tc : Thread nD τ).loc main_arg1))
      ∧ r.2.mem ((c.tc : Thread nD τ).loc main_v6) = nearest (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => ⟨
      (h c main_v25).trans (by simp only [ops, TRef.binary, TRef.nullary, TRef.unary, TRef.quaternary, TRef.toBuf, TRef.ofBuf, cast_eq]; after_results_simp <;> rfl),
      (h c main_v23).trans (by simp only [ops, TRef.binary, TRef.nullary, TRef.unary, TRef.quaternary, TRef.toBuf, TRef.ofBuf, cast_eq]; after_results_simp <;> rfl),
      (h c main_v6).trans (by simp only [ops, TRef.binary, TRef.nullary, TRef.unary, TRef.quaternary, TRef.toBuf, TRef.ofBuf, cast_eq]; after_results_simp <;> rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl),
      (h c main_arg2).trans (by simp only [ops, TRef.binary, TRef.nullary, TRef.unary, TRef.quaternary, TRef.toBuf, TRef.ofBuf, cast_eq]; after_results_simp <;> rfl)⟩, sem_eq_zero_of_no_sems (by decide) r.2⟩)
    (run_seq no_scoped_refs no_scoped_sems defs main (fun _ => ops) main_eq (fun _ => ops_sub) m ρ)

end Cert.ReferenceIdeal.Run

end
-- ==== Proof.Value.Finite.lean ====
/-
  The precondition read at the arguments: every entity and every codeword is real.
-/
module

public import proofs.«01_k».proof.Proof.Gen.Pre_finite
public import Idealize.ShloMosaic.PureOps.Ideal
public import Idealize.ShloMosaic.PureOps.Ideal.Laws
public import Idealize.ShloMosaic.Lib.ReduceAll
public import Idealize.ShloMosaic.Lib.WordArith
public import Idealize.ShloMosaic.Lib.IdealHost

@[expose] public section

noncomputable section

namespace Cert.Finite

open Cert.Pre_finite Cert.Pre_finite.Gen
open Idealize.ShloMosaic Idealize.ShloMosaic.ValueIdx

/-- An extended real whose absolute value is below infinity is a real. -/
theorem real_of_abs_lt (a : EReal) (h : max a (-a) < ⊤) : ∃ r : ℝ, a = (r : EReal) := by
  induction a with
  | bot => simp at h
  | coe r => exact ⟨r, rfl⟩
  | top => simp at h

instance : Subsingleton S_.Idx := ⟨fun a b => funext fun d => d.elim0⟩

theorem all_real {s : Shape} (axes : List (Fin s.rank)) (h : s.ReducesTo axes S_) (hu : 0 < S_.numel) (x v : FVec Ideal s .f32)
    (hv : ∀ i, v i = (⊤ : EReal)) (init : IVec S_ 1) (j : S_.Idx)
    (e : Host.reduce IntOp.andi (cmpf .olt (Host.absf x) v) init h hu j = 1#1) : ∃ r : s.Idx → ℝ, x = fun i => ((r i : ℝ) : EReal) := by
  have key : ∀ i, ∃ r : ℝ, x i = (r : EReal) := fun i => by
    have hi := Host.reduce_andi_all _ _ _ _ j e i
    have hd : BitVec.ofBool (decide (max (x i) (-(x i)) < v i)) = 1#1 := hi
    rw [WordArith.ofBool_eq_one_iff, decide_eq_true_iff, hv] at hd
    exact real_of_abs_lt _ hd
  choose r hr using key
  exact ⟨r, funext hr⟩

/-- Under the precondition the entities and the codebook are arrays of reals. -/
theorem reals (q : FVec Ideal S4096x256 .f32) (x : FVec Ideal S1024x256 .f32) (cb : FVec Ideal S512x256 .f32)
    (h : Cert.Pre_finite.fn (F := Ideal) q x cb = fun _ => 1#1) :
    (∃ r : S1024x256.Idx → ℝ, x = fun i => ((r i : ℝ) : EReal)) ∧ ∃ r : S512x256.Idx → ℝ, cb = fun i => ((r i : ℝ) : EReal) := by
  have h0 := congrFun h ix0
  unfold Cert.Pre_finite.fn at h0
  dsimp only at h0
  have h1 := IntOp.andi_eq_one.mp h0
  have htop : Ideal.ofBits .f32 0x7F800000#32 = (⊤ : EReal) := by simp [Ideal.ofBits, Ideal.ieee]
  exact ⟨all_real _ _ _ x _ (fun i => htop) _ _ h1.1, all_real _ _ _ cb _ (fun i => htop) _ _ h1.2⟩

end Cert.Finite

end
-- ==== Proof.Value.FirstMin.lean ====
/-
  The first index at which a finite family of extended reals is least: it exists, it is unique, the fold of `min`
  over the family is the family there, and the least of the indices at which the family equals that fold is it. Then
  the fold of the host's arg-min: over any list of pairs it returns the pair of the least value with the least index.
-/
module

public import Idealize.ShloMosaic.PureOps.Ideal.Laws
public import Mathlib.Data.EReal.Operations
public import Mathlib.Data.Finset.Fold
public import Mathlib.Order.Minimal

@[expose] public section

noncomputable section

namespace Cert.FirstMin

open scoped BigOperators

/-- `k` is the first index at which `f` is least. -/
def IsFirst {n : Nat} (f : Fin n → EReal) (k : Fin n) : Prop := (∀ j, f k ≤ f j) ∧ ∀ j, j < k → f k < f j

theorem exists_isFirst {n : Nat} (hn : 0 < n) (f : Fin n → EReal) : ∃ k, IsFirst f k := by
  obtain ⟨m, -, hm⟩ := Finset.exists_min_image (Finset.univ : Finset (Fin n)) f ⟨⟨0, hn⟩, Finset.mem_univ _⟩
  have hne : (Finset.univ.filter fun j => f j = f m).Nonempty := ⟨m, by simp⟩
  refine ⟨(Finset.univ.filter fun j => f j = f m).min' hne, ?_⟩
  have hk : f ((Finset.univ.filter fun j => f j = f m).min' hne) = f m :=
    (Finset.mem_filter.mp (Finset.min'_mem _ hne)).2
  refine ⟨fun j => by rw [hk]; exact hm j (Finset.mem_univ j), fun j hj => ?_⟩
  rw [hk]
  refine lt_of_le_of_ne (hm j (Finset.mem_univ j)) fun e => ?_
  exact absurd (Finset.min'_le _ j (by simp [e])) (not_le.mpr hj)

theorem IsFirst.unique {n : Nat} {f : Fin n → EReal} {k l : Fin n} (hk : IsFirst f k) (hl : IsFirst f l) : k = l := by
  rcases lt_trichotomy k l with h | h | h
  · exact absurd (hl.2 k h) (not_lt.mpr (hk.1 l))
  · exact h
  · exact absurd (hk.2 l h) (not_lt.mpr (hl.1 k))

/-- The fold of `min` over the family is the family at its first least index. -/
theorem IsFirst.fold_eq {n : Nat} {f : Fin n → EReal} {k : Fin n} (h : IsFirst f k) :
    (Finset.univ : Finset (Fin n)).fold min ⊤ f = f k :=
  le_antisymm ((Finset.fold_min_le _).mpr (Or.inr ⟨k, Finset.mem_univ _, le_rfl⟩))
    ((Finset.le_fold_min _).mpr ⟨le_top, fun j _ => h.1 j⟩)

/-- The least of the indices at which the family equals its least value, every other index counted as `c`, is the
    first of them, when `c` is no less than an index. -/
theorem IsFirst.fold_index {n : Nat} {f : Fin n → EReal} {k : Fin n} (h : IsFirst f k) (c : EReal)
    (hc : ∀ j : Fin n, (((j.val : ℤ) : ℝ) : EReal) ≤ c) :
    (Finset.univ : Finset (Fin n)).fold min ⊤ (fun j => if f j = f k then (((j.val : ℤ) : ℝ) : EReal) else c)
      = (((k.val : ℤ) : ℝ) : EReal) := by
  refine le_antisymm ((Finset.fold_min_le _).mpr (Or.inr ⟨k, Finset.mem_univ _, by simp⟩))
    ((Finset.le_fold_min _).mpr ⟨le_top, fun j _ => ?_⟩)
  by_cases e : f j = f k
  · rw [if_pos e]
    have hkj : k ≤ j := by
      by_contra hlt
      exact absurd (h.2 j (not_le.mp hlt)) (by rw [e]; exact lt_irrefl _)
    exact_mod_cast hkj
  · rw [if_neg e]
    exact hc k

/-- The least of a list of pairs: the least value, of those the least index. -/
theorem foldl_least {α : Type} (g : EReal × α → EReal × α → EReal × α) (key : α → ℤ)
    (hmem : ∀ a b, g a b = a ∨ g a b = b)
    (hle : ∀ a b, ((g a b).1 < a.1 ∨ ((g a b).1 = a.1 ∧ key (g a b).2 ≤ key a.2))
      ∧ ((g a b).1 < b.1 ∨ ((g a b).1 = b.1 ∧ key (g a b).2 ≤ key b.2))) :
    ∀ (l : List (EReal × α)) (a : EReal × α), l.foldl g a ∈ a :: l
      ∧ ∀ p ∈ a :: l, (l.foldl g a).1 < p.1 ∨ ((l.foldl g a).1 = p.1 ∧ key (l.foldl g a).2 ≤ key p.2)
  | [], a => ⟨List.mem_cons_self, fun p hp => by
      have : p = a := by simpa using hp
      subst this; exact Or.inr ⟨rfl, le_rfl⟩⟩
  | b :: l, a => by
    have ih := foldl_least g key hmem hle l (g a b)
    rw [List.foldl_cons]
    refine ⟨?_, fun p hp => ?_⟩
    · rcases List.mem_cons.mp ih.1 with e | e
      · rw [e]
        rcases hmem a b with e' | e' <;> rw [e'] <;> simp
      · exact List.mem_cons_of_mem _ (List.mem_cons_of_mem _ e)
    · have step : ∀ q : EReal × α, ((g a b).1 < q.1 ∨ ((g a b).1 = q.1 ∧ key (g a b).2 ≤ key q.2)) →
          (l.foldl g (g a b)).1 < q.1 ∨ ((l.foldl g (g a b)).1 = q.1 ∧ key (l.foldl g (g a b)).2 ≤ key q.2) := by
        intro q hq
        rcases ih.2 (g a b) List.mem_cons_self with h1 | ⟨h1, h1'⟩ <;> rcases hq with h2 | ⟨h2, h2'⟩
        · exact Or.inl (lt_trans h1 h2)
        · exact Or.inl (h2 ▸ h1)
        · exact Or.inl (h1 ▸ h2)
        · exact Or.inr ⟨h1.trans h2, h1'.trans h2'⟩
      rcases List.mem_cons.mp hp with rfl | hp
      · exact step _ (hle p b).1
      · rcases List.mem_cons.mp hp with rfl | hp
        · exact step _ (hle a p).2
        · exact ih.2 p (List.mem_cons_of_mem _ hp)

end Cert.FirstMin

end
-- ==== Proof.Value.Candidates.lean ====
/-
  The first call's two index columns over the extended reals: the float index of the first least metric of a row, and
  of the first least metric once that one is masked; then the metric itself as a real number, and the squared distance
  it stands for.
-/
module

public import proofs.«01_k».proof.Proof.Value.FirstMin
public import proofs.«01_k».proof.Proof.Gen.KernelIdeal.Skeleton
public import Idealize.ShloMosaic.Lib.ValueIdx
public import Idealize.ShloMosaic.Lib.ValueIdxCore
public import Idealize.ShloMosaic.Lib.ValueLayout
public import Idealize.ShloMosaic.Lib.ValueLayoutCasts
public import Idealize.ShloMosaic.Lib.Pipeline.Value

@[expose] public section

set_option maxRecDepth 16384

noncomputable section

namespace Cert.Candidates

open Cert.KernelIdeal Cert.KernelIdeal.Gen Cert.FirstMin
open Idealize.ShloMosaic Idealize.ShloMosaic.ValueIdx
open scoped BigOperators

/-! ## Constants -/

theorem ofBits_top : Ideal.ofBits .f32 0x7F800000#32 = ⊤ := by simp [Ideal.ofBits, Ideal.ieee]
theorem ofBits_512 : Ideal.ofBits .f32 0x44000000#32 = ((512 : ℝ) : EReal) := by
  simp [Ideal.ofBits, Ideal.ieee]; rw [← EReal.coe_mul]; norm_num
theorem ofBits_2 : Ideal.ofBits .f32 0x40000000#32 = ((2 : ℝ) : EReal) := by
  simp [Ideal.ofBits, Ideal.ieee]; rw [← EReal.coe_mul]; norm_num

/-! ## A row's minimum, a column spread over its row, the float iota -/

/-- A row minimum as a column reads, at row `i`, the fold of `min` over the row. -/
theorem rowMin_apply (v : FVec Ideal S1024x512 .f32) (i : Fin 1024) (u : Fin 1) :
    shapeCast S1024x1 (multiReduction .minimumf [1] S1024 v 0x7F800000#32 reduces_S1024x512_S1024 (.inl rfl) rfl) shapeCasts_S1024_S1024x1 (ix2 i u)
      = (Finset.univ : Finset (Fin 512)).fold min ⊤ fun k => v (ix2 i k) := by
  rw [shapeCast_a_a1_apply]
  refine (multiReduction_minimumf_eq_fold v _ reduces_S1024x512_S1024 _ _ (ix1 i)).trans ?_
  refine (reduces_S1024x512_S1024.fold_filter_drop_single _ _ v (ix1 i)).trans ?_
  rw [show FloatOps.ofBits (F := Ideal) .f32 0x7F800000#32 = (⊤ : EReal) from ofBits_top]
  refine congrArg (fun g => (Finset.univ : Finset (Fin 512)).fold min (⊤ : EReal) g) (funext fun k => congrArg v (funext fun a => ?_))
  match a with
  | ⟨0, _⟩ => rfl
  | ⟨1, _⟩ => rfl

/-- A column spread over its rows reads the row's entry. -/
theorem spread_apply {α : Type} (v : S1024x1.Idx → α) (i : Fin 1024) (k : Fin 512) :
    broadcastTo S1024x512 v broadcasts_S1024x1_S1024x512 (ix2 i k) = v (ix2 i (0 : Fin 1)) :=
  broadcastTo_apply v _ _ _ fun a => match a with
    | ⟨0, _⟩ => rfl
    | ⟨1, _⟩ => rfl

theorem iota_apply (i : Fin 1024) (k : Fin 512) : k0_pay2 (F := Ideal) (ix2 i k) = (((k.val : ℤ) : ℝ) : EReal) := by
  unfold k0_pay2
  dsimp only
  rw [sitofp_apply, iota_single_apply]
  show ((((BitVec.ofNat 32 k.val).toInt : ℤ) : ℝ) : EReal) = _
  have : (BitVec.ofNat 32 k.val).toInt = (k.val : ℤ) := by
    have := k.isLt
    rw [BitVec.toInt_eq_toNat_of_lt] <;> simp <;> omega
  rw [this]

theorem index_le (j : Fin 512) : (((j.val : ℤ) : ℝ) : EReal) ≤ ((512 : ℝ) : EReal) := by
  have := j.isLt
  exact_mod_cast this.le

theorem index_inj {j k : Fin 512} : (((j.val : ℤ) : ℝ) : EReal) = (((k.val : ℤ) : ℝ) : EReal) ↔ j = k := by
  rw [Fin.ext_iff]
  constructor
  · intro h; exact_mod_cast h
  · intro h; rw [h]

/-- The least index, as a float, at which a row of `v` equals its minimum. -/
theorem rowIndex_apply (v : FVec Ideal S1024x512 .f32) (M : FVec Ideal S1024x1 .f32) (i : Fin 1024) (u : Fin 1) (k : Fin 512)
    (hk : IsFirst (fun j : Fin 512 => v (ix2 i j)) k) (hM : M (ix2 i (0 : Fin 1)) = v (ix2 i k)) :
    shapeCast S1024x1 (multiReduction .minimumf [1] S1024
        (select (cmpf .oeq v (broadcastTo S1024x512 M broadcasts_S1024x1_S1024x512)) (k0_pay2 (F := Ideal))
          (broadcast S1024x512 (Scalar.ofBits (F := Ideal) .f32 0x44000000#32)))
        0x7F800000#32 reduces_S1024x512_S1024 (.inl rfl) rfl) shapeCasts_S1024_S1024x1 (ix2 i u) = (((k.val : ℤ) : ℝ) : EReal) := by
  rw [rowMin_apply, ← hk.fold_index ((512 : ℝ) : EReal) index_le]
  refine congrArg (fun g => (Finset.univ : Finset (Fin 512)).fold min (⊤ : EReal) g) (funext fun j => ?_)
  rw [select_apply, cmpf_apply, spread_apply, hM, iota_apply, broadcast_apply]
  show Scalar.select (BitVec.ofBool (decide (v (ix2 i j) = v (ix2 i k)))) _ (Ideal.ofBits .f32 0x44000000#32) = _
  rw [ofBits_512]
  by_cases e : v (ix2 i j) = v (ix2 i k)
  · simp [e, Scalar.select]
  · simp [e, Scalar.select]

/-- The first candidate's float index: the first least metric of the row. -/
theorem first_apply (x : FVec Ideal S1024x256 .f32) (cb : FVec Ideal S512x256 .f32) (i : Fin 1024) (u : Fin 1) (k : Fin 512)
    (hk : IsFirst (fun j : Fin 512 => k0_pay1 (F := Ideal) x cb (ix2 i j)) k) :
    k0_pay3 (F := Ideal) x cb (ix2 i u) = (((k.val : ℤ) : ℝ) : EReal) := by
  unfold k0_pay3
  exact rowIndex_apply (k0_pay1 (F := Ideal) x cb) _ i u k hk (by rw [rowMin_apply]; exact hk.fold_eq)

/-- The row with its first least metric masked. -/
def masked (f : Fin 512 → EReal) (k : Fin 512) : Fin 512 → EReal := fun j => if j = k then ⊤ else f j

/-- A small float index converts to its word. -/
theorem fptosi_index (k : Fin 512) : Ideal.fptosi 32 (((k.val : ℤ) : ℝ) : EReal) = BitVec.ofNat 32 k.val := by
  have := k.isLt
  unfold Ideal.fptosi Ideal.toIntClamped
  have h0 : (0 : ℝ) ≤ ((k.val : ℤ) : ℝ) := by positivity
  show BitVec.ofInt 32 (max _ (min _ (if 0 ≤ ((k.val : ℤ) : ℝ) then ⌊((k.val : ℤ) : ℝ)⌋ else _))) = _
  rw [if_pos h0, Int.floor_intCast]
  rw [min_eq_right (by norm_num; omega), max_eq_right (by omega)]
  exact BitVec.ofInt_natCast ..

theorem fst_index (x : FVec Ideal S1024x256 .f32) (cb : FVec Ideal S512x256 .f32) (i : Fin 1024) (u : Fin 1) (k : Fin 512)
    (hk : IsFirst (fun j : Fin 512 => k0_pay1 (F := Ideal) x cb (ix2 i j)) k) : k0_pay4 (F := Ideal) x cb (ix2 i u) = BitVec.ofNat 32 k.val := by
  unfold k0_pay4
  show Ideal.fptosi 32 (k0_pay3 (F := Ideal) x cb (ix2 i u)) = _
  rw [first_apply x cb i u k hk, fptosi_index]

theorem snd_index (x : FVec Ideal S1024x256 .f32) (cb : FVec Ideal S512x256 .f32) (i : Fin 1024) (u : Fin 1) (k l : Fin 512)
    (hk : IsFirst (fun j : Fin 512 => k0_pay1 (F := Ideal) x cb (ix2 i j)) k)
    (hl : IsFirst (masked (fun j : Fin 512 => k0_pay1 (F := Ideal) x cb (ix2 i j)) k) l) : k0_pay5 (F := Ideal) x cb (ix2 i u) = BitVec.ofNat 32 l.val := by
  unfold k0_pay5
  dsimp only
  have hv : ∀ j : Fin 512, (select (cmpf .oeq (k0_pay2 (F := Ideal)) (broadcastTo S1024x512 (k0_pay3 (F := Ideal) x cb) broadcasts_S1024x1_S1024x512))
      (broadcast S1024x512 (Scalar.ofBits (F := Ideal) .f32 0x7F800000#32)) (k0_pay1 (F := Ideal) x cb) : FVec Ideal S1024x512 .f32) (ix2 i j)
      = masked (fun j : Fin 512 => k0_pay1 (F := Ideal) x cb (ix2 i j)) k j := by
    intro j
    rw [select_apply, cmpf_apply, spread_apply, iota_apply, first_apply x cb i 0 k hk, broadcast_apply]
    show Scalar.select (BitVec.ofBool (decide ((((j.val : ℤ) : ℝ) : EReal) = (((k.val : ℤ) : ℝ) : EReal)))) (Ideal.ofBits .f32 0x7F800000#32) _ = _
    rw [ofBits_top]
    unfold masked
    by_cases e : j = k
    · simp [e, Scalar.select]
    · have e' : ¬ ((((j.val : ℤ) : ℝ) : EReal) = (((k.val : ℤ) : ℝ) : EReal)) := fun h => e (index_inj.mp h)
      rw [decide_eq_false e', if_neg e]; rfl
  generalize hw : (select (cmpf .oeq (k0_pay2 (F := Ideal)) (broadcastTo S1024x512 (k0_pay3 (F := Ideal) x cb) broadcasts_S1024x1_S1024x512))
      (broadcast S1024x512 (Scalar.ofBits (F := Ideal) .f32 0x7F800000#32)) (k0_pay1 (F := Ideal) x cb) : FVec Ideal S1024x512 .f32) = w at hv
  have hl' : IsFirst (fun j : Fin 512 => w (ix2 i j)) l := by
    rw [show (fun j : Fin 512 => w (ix2 i j)) = masked (fun j : Fin 512 => k0_pay1 (F := Ideal) x cb (ix2 i j)) k from funext hv]; exact hl
  show Ideal.fptosi 32 _ = _
  rw [← fptosi_index l]
  refine congrArg (Ideal.fptosi 32) ?_
  exact rowIndex_apply w _ i u l hl' (by rw [rowMin_apply]; exact hl'.fold_eq)

end Cert.Candidates

end
-- ==== Proof.Value.Metric.lean ====
/-
  The first call's metric and the reference's distance of real entities and codewords as real numbers, and the least
  of either: a codeword's metric is its squared distance less the entity's own squared norm, so the first codeword of
  least metric is the first of least distance.
-/
module

public import proofs.«01_k».proof.Proof.Value.Candidates
public import proofs.«01_k».proof.Proof.ReferenceIdeal.Run
public import Idealize.ShloMosaic.Lib.MatmulPlain
public import Idealize.ShloMosaic.Lib.IdealHost

@[expose] public section

set_option maxRecDepth 16384

noncomputable section

namespace Cert.Metric

open Cert.KernelIdeal Cert.KernelIdeal.Gen Cert.FirstMin Cert.Candidates
open Idealize.ShloMosaic Idealize.ShloMosaic.ValueIdx
open scoped BigOperators

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array of reals, as extended reals. -/
abbrev up {s : Shape} (x : s.Idx → ℝ) : FVec Ideal s .f32 := fun i => ((x i : ℝ) : EReal)

variable (x : S1024x256.Idx → ℝ) (c : S512x256.Idx → ℝ)

/-- The metric: the codeword's squared norm less twice its product with the entity. -/
def metric (i : Fin 1024) (k : Fin 512) : ℝ :=
  (∑ d : Fin 256, c (ix2 k d) * c (ix2 k d)) - 2 * ∑ d : Fin 256, x (ix2 i d) * c (ix2 k d)
/-- The squared distance. -/
def sq (i : Fin 1024) (k : Fin 512) : ℝ := ∑ d : Fin 256, (x (ix2 i d) - c (ix2 k d)) * (x (ix2 i d) - c (ix2 k d))

theorem sq_nonneg (i : Fin 1024) (k : Fin 512) : 0 ≤ sq x c i k := Finset.sum_nonneg fun d _ => mul_self_nonneg _

theorem sq_eq (i : Fin 1024) (k : Fin 512) : sq x c i k = (∑ d : Fin 256, x (ix2 i d) * x (ix2 i d)) + metric x c i k := by
  unfold sq metric
  rw [Finset.mul_sum, ← Finset.sum_sub_distrib, ← Finset.sum_add_distrib]
  exact Finset.sum_congr rfl fun d _ => by ring

/-- The first call's metric is it. -/
theorem metric_apply (i : Fin 1024) (k : Fin 512) :
    k0_pay1 (F := Ideal) (up x) (up c) (ix2 i k) = ((metric x c i k : ℝ) : EReal) := by
  unfold k0_pay1
  dsimp only
  rw [subf_apply, mulf_apply, broadcastTo_1b_ab_apply, shapeCast_a_1a_apply, broadcast_apply]
  rw [show matmul dot_S1024x256_S256x512_S1024x512_1_0_0_1_n_n (some .fp32) (up x : FVec Ideal S1024x256 .f32)
      (transpose S256x512 [1, 0] (up c : FVec Ideal S512x256 .f32) transposes_S512x256_p1_0_S256x512)
      (constant S1024x512 .f32 0x00000000#32) (ix2 i k) = _ from Ideal.matmul_plain_apply (M := 1024) (K := 256) (N := 512) (some .fp32) _ _ _ i k]
  rw [constant_apply, Ideal.ofBits_zero_f32, zero_add]
  refine (congrArg (· - _) (Ideal.multiReduction_add_single _ _ reduces_S256x512_S512 _ _ (ix1 k))).trans ?_
  show _ - Ideal.ofBits .f32 0x40000000#32 * _ = _
  rw [ofBits_2]
  unfold metric
  rw [EReal.coe_sub, EReal.coe_mul, coe_sum, coe_sum]
  congr 1
  · refine Finset.sum_congr rfl fun d _ => ?_
    have e : reduces_S256x512_S512.lift (ix1 k) d = (ix2 (d : Fin 256) k : S256x512.Idx) := funext fun a => match a with
      | ⟨0, _⟩ => rfl
      | ⟨1, _⟩ => rfl
    refine (congrArg _ e).trans ?_
    rw [EReal.coe_mul]
    exact congrArg₂ (· * ·) (transpose_ix2_apply ..) (transpose_ix2_apply ..)
  · congr 1
    refine Finset.sum_congr rfl fun d _ => ?_
    rw [transpose_ix2_apply, EReal.coe_mul]

/-- The reference's difference of one coordinate. -/
theorem differences_apply (i : Fin 1024) (k : Fin 512) (d : Fin 256) :
    Cert.ReferenceIdeal.Run.differences (F := Ideal) (up x) (up c) (ix3 i k d)
      = ((x (ix2 i d) : ℝ) : EReal) - ((c (ix2 k d) : ℝ) : EReal) := by
  unfold Cert.ReferenceIdeal.Run.differences
  refine congrArg₂ (· - ·) ?_ ?_
  · refine (broadcastInDim_apply _ _ _ _ (ix3 i (0 : Fin 1) d) ?_).trans ?_
    · intro a; match a with
      | ⟨0, _⟩ => rfl
      | ⟨1, _⟩ => rfl
      | ⟨2, _⟩ => rfl
    refine (broadcastInDim_apply _ _ _ _ (ix2 i d) ?_).trans rfl
    intro a; match a with
      | ⟨0, _⟩ => rfl
      | ⟨1, _⟩ => rfl
  · refine (broadcastInDim_apply _ _ _ _ (ix3 (0 : Fin 1) k d) ?_).trans ?_
    · intro a; match a with
      | ⟨0, _⟩ => rfl
      | ⟨1, _⟩ => rfl
      | ⟨2, _⟩ => rfl
    refine (broadcastInDim_apply _ _ _ _ (ix2 k d) ?_).trans rfl
    intro a; match a with
      | ⟨0, _⟩ => rfl
      | ⟨1, _⟩ => rfl

/-- The reference's distance is the root of the squared distance. -/
theorem distances_apply (i : Fin 1024) (k : Fin 512) :
    Cert.ReferenceIdeal.Run.distances (F := Ideal) (up x) (up c) (ix2 i k) = ((Real.sqrt (sq x c i k) : ℝ) : EReal) := by
  have hred : Shape.Reduces Cert.ReferenceIdeal.S1024x512x256 [2] Cert.ReferenceIdeal.S1024x512 := by decide
  have hsum : Host.reduceAdd (mulf (Cert.ReferenceIdeal.Run.differences (F := Ideal) (up x) (up c)) (Cert.ReferenceIdeal.Run.differences (F := Ideal) (up x) (up c)))
      (constant Cert.ReferenceIdeal.S_ .f32 0x00000000#32) Cert.ReferenceIdeal.Facts₀.reducesTo_S1024x512x256_S1024x512_d2 Cert.ReferenceIdeal.Facts₀.h_S_ (ix2 i k)
      = ((sq x c i k : ℝ) : EReal) := by
    rw [hostReduceAdd_apply, Ideal.hostReduceAdd_single _ hred, constant_apply, Ideal.ofBits_zero_f32, zero_add]
    unfold sq
    rw [coe_sum]
    refine Finset.sum_congr rfl fun d _ => ?_
    have e : hred.lift (ix2 i k) d = (ix3 i k (d : Fin 256) : Cert.ReferenceIdeal.S1024x512x256.Idx) := funext fun a => match a with
      | ⟨0, _⟩ => rfl
      | ⟨1, _⟩ => rfl
      | ⟨2, _⟩ => rfl
    refine (congrArg _ e).trans ?_
    rw [EReal.coe_mul, EReal.coe_sub]
    exact congrArg₂ (· * ·) (differences_apply x c i k d) (differences_apply x c i k d)
  show Ideal.sqrt _ = _
  refine (congrArg Ideal.sqrt hsum).trans ?_
  rw [Ideal.sqrt_coe, if_neg (not_lt.mpr (sq_nonneg x c i k))]

end Cert.Metric

end
-- ==== Proof.Value.Nearest.lean ====
/-
  The nearest codeword of every entity, for real entities and codewords: the two candidates of the first call are the
  first and the next of least distance, and the reference's arg-min is the first of them.
-/
module

public import proofs.«01_k».proof.Proof.Value.Metric
public import Idealize.ShloMosaic.PureOps.Reduce

@[expose] public section

set_option maxRecDepth 16384

noncomputable section

namespace Cert.Nearest

open Cert.KernelIdeal Cert.KernelIdeal.Gen Cert.FirstMin Cert.Candidates Cert.Metric
open Idealize.ShloMosaic Idealize.ShloMosaic.ValueIdx
open scoped BigOperators

/-- `k` is the first codeword of least metric of entity `i`, `l` the first of least metric among the others. -/
structure Best (x : S1024x256.Idx → ℝ) (c : S512x256.Idx → ℝ) (i : Fin 1024) (k l : Fin 512) : Prop where
  fst : IsFirst (fun j : Fin 512 => k0_pay1 (F := Ideal) (up x) (up c) (ix2 i j)) k
  snd : IsFirst (masked (fun j : Fin 512 => k0_pay1 (F := Ideal) (up x) (up c) (ix2 i j)) k) l

variable {x : S1024x256.Idx → ℝ} {c : S512x256.Idx → ℝ} {i : Fin 1024} {k l : Fin 512}

theorem exists_best (x : S1024x256.Idx → ℝ) (c : S512x256.Idx → ℝ) (i : Fin 1024) : ∃ k l, Best x c i k l := by
  obtain ⟨k, hk⟩ := exists_isFirst (by decide) (fun j : Fin 512 => k0_pay1 (F := Ideal) (up x) (up c) (ix2 i j))
  obtain ⟨l, hl⟩ := exists_isFirst (by decide) (masked (fun j : Fin 512 => k0_pay1 (F := Ideal) (up x) (up c) (ix2 i j)) k)
  exact ⟨k, l, hk, hl⟩

theorem metric_le_iff {a b : Fin 512} : metric x c i a ≤ metric x c i b ↔ sq x c i a ≤ sq x c i b := by
  rw [sq_eq, sq_eq]; exact (add_le_add_iff_left _).symm
theorem metric_lt_iff {a b : Fin 512} : metric x c i a < metric x c i b ↔ sq x c i a < sq x c i b := by
  rw [sq_eq, sq_eq]; exact (add_lt_add_iff_left _).symm

theorem Best.sq_le (h : Best x c i k l) (j : Fin 512) : sq x c i k ≤ sq x c i j := by
  have := h.fst.1 j
  simp only [metric_apply, EReal.coe_le_coe_iff] at this
  exact metric_le_iff.mp this
theorem Best.sq_lt (h : Best x c i k l) (j : Fin 512) (hj : j < k) : sq x c i k < sq x c i j := by
  have := h.fst.2 j hj
  simp only [metric_apply, EReal.coe_lt_coe_iff] at this
  exact metric_lt_iff.mp this

/-- The two candidates differ. -/
theorem Best.ne (h : Best x c i k l) : l ≠ k := by
  rintro rfl
  obtain ⟨j, hj⟩ : ∃ j : Fin 512, j ≠ l := exists_ne l
  have := h.snd.1 j
  simp only [masked, if_true, if_neg hj, metric_apply] at this
  exact absurd (top_le_iff.mp this) (EReal.coe_ne_top _)

/-- Either the first is nearer, or both are as near and the first has the smaller index. -/
theorem Best.order (h : Best x c i k l) : sq x c i k < sq x c i l ∨ (sq x c i k = sq x c i l ∧ k < l) := by
  rcases lt_or_eq_of_le (h.sq_le l) with e | e
  · exact Or.inl e
  · refine Or.inr ⟨e, ?_⟩
    rcases lt_trichotomy k l with g | g | g
    · exact g
    · exact absurd g.symm h.ne
    · exact absurd (h.sq_lt l g) (by rw [e]; exact lt_irrefl _)

/-- The first candidate is the first codeword of least distance. -/
theorem Best.distances (h : Best x c i k l) :
    IsFirst (fun j : Fin 512 => Cert.ReferenceIdeal.Run.distances (F := Ideal) (up x) (up c) (ix2 i j)) k := by
  refine ⟨fun j => ?_, fun j hj => ?_⟩
  · simp only [distances_apply, EReal.coe_le_coe_iff]
    exact Real.sqrt_le_sqrt (h.sq_le j)
  · simp only [distances_apply, EReal.coe_lt_coe_iff]
    exact Real.sqrt_lt_sqrt (sq_nonneg x c i k) (h.sq_lt j hj)

/-! ## The reference's arg-min -/

/-- The reference's reducer returns the pair of smaller value, of equal values that of smaller index. -/
theorem reducer_eq (a b : EReal × BitVec 32) :
    Cert.ReferenceIdeal.reducer_argmin_f32_i32 (F := Ideal) a b
      = if a.1 < b.1 ∨ (a.1 = b.1 ∧ a.2.toInt < b.2.toInt) then a else b := by
  obtain ⟨a1, a2⟩ := a
  obtain ⟨b1, b2⟩ := b
  unfold Cert.ReferenceIdeal.reducer_argmin_f32_i32
  dsimp only
  have hune : (FloatOps.cmpf (F := Ideal) (φ := .f32) .une a1 a1 : BitVec 1) = 0#1 := by simp [Ideal.cmpf_def, Ideal.cmp]
  rw [hune]
  have e1 : (FloatOps.cmpf (F := Ideal) (φ := .f32) .olt a1 b1 : BitVec 1) = BitVec.ofBool (decide (a1 < b1)) := rfl
  have e2 : (FloatOps.cmpf (F := Ideal) (φ := .f32) .oeq a1 b1 : BitVec 1) = BitVec.ofBool (decide (a1 = b1)) := rfl
  have e3 : IntOp.cmpi .slt a2 b2 = BitVec.ofBool (decide (a2.toInt < b2.toInt)) := rfl
  rw [e1, e2, e3]
  by_cases h1 : a1 < b1
  · have hne : a1 ≠ b1 := ne_of_lt h1
    rw [decide_eq_true h1, decide_eq_false hne, if_pos (Or.inl h1)]
    cases (decide (a2.toInt < b2.toInt)) <;> rfl
  · by_cases h2 : a1 = b1
    · subst h2
      by_cases h3 : a2.toInt < b2.toInt
      · rw [decide_eq_false h1, decide_eq_true h3, decide_eq_true rfl, if_pos (Or.inr ⟨rfl, h3⟩)]; rfl
      · rw [decide_eq_false h1, decide_eq_false h3, decide_eq_true rfl, if_neg (by tauto)]; rfl
    · rw [decide_eq_false h1, decide_eq_false h2, if_neg (by tauto)]
      cases (decide (a2.toInt < b2.toInt)) <;> rfl

theorem reducer_mem (a b : EReal × BitVec 32) : Cert.ReferenceIdeal.reducer_argmin_f32_i32 (F := Ideal) a b = a
    ∨ Cert.ReferenceIdeal.reducer_argmin_f32_i32 (F := Ideal) a b = b := by
  rw [reducer_eq]; split
  · exact Or.inl rfl
  · exact Or.inr rfl

theorem reducer_le (a b : EReal × BitVec 32) :
    ((Cert.ReferenceIdeal.reducer_argmin_f32_i32 (F := Ideal) a b).1 < a.1 ∨ ((Cert.ReferenceIdeal.reducer_argmin_f32_i32 (F := Ideal) a b).1 = a.1
        ∧ (Cert.ReferenceIdeal.reducer_argmin_f32_i32 (F := Ideal) a b).2.toInt ≤ a.2.toInt))
      ∧ ((Cert.ReferenceIdeal.reducer_argmin_f32_i32 (F := Ideal) a b).1 < b.1 ∨ ((Cert.ReferenceIdeal.reducer_argmin_f32_i32 (F := Ideal) a b).1 = b.1
        ∧ (Cert.ReferenceIdeal.reducer_argmin_f32_i32 (F := Ideal) a b).2.toInt ≤ b.2.toInt)) := by
  rw [reducer_eq]
  split
  case isTrue h =>
    refine ⟨Or.inr ⟨rfl, le_rfl⟩, ?_⟩
    rcases h with h | ⟨h, h'⟩
    · exact Or.inl h
    · exact Or.inr ⟨h, h'.le⟩
  case isFalse h =>
    refine ⟨?_, Or.inr ⟨rfl, le_rfl⟩⟩
    rw [not_or, not_and, not_lt, not_lt] at h
    rcases lt_or_eq_of_le h.1 with e | e
    · exact Or.inl e
    · exact Or.inr ⟨e, h.2 e.symm⟩

theorem toInt_index (j : Fin 512) : (BitVec.ofNat 32 j.val).toInt = (j.val : ℤ) := by
  have := j.isLt
  rw [BitVec.toInt_eq_toNat_of_lt] <;> simp <;> omega

/-- The reference's nearest codeword is the first candidate. -/
theorem Best.nearest (h : Best x c i k l) :
    Cert.ReferenceIdeal.Run.nearest (F := Ideal) (up x) (up c) (ix1 i) = BitVec.ofNat 32 k.val := by
  unfold Cert.ReferenceIdeal.Run.nearest
  rw [Ideal.argReduce_eq_reduce2, Host.reduce2_eq_foldl_fiber]
  have hfib : ∀ p : EReal × BitVec 32, p ∈ Host.argReduceFiber (Cert.ReferenceIdeal.Run.distances (F := Ideal) (up x) (up c))
      (iotaInDim Cert.ReferenceIdeal.S1024x512 32 1) Cert.ReferenceIdeal.Facts₀.reducesTo_S1024x512_S1024_d1 (ix1 i : Cert.ReferenceIdeal.S1024.Idx) ↔
      ∃ j : Fin 512, p = (Cert.ReferenceIdeal.Run.distances (F := Ideal) (up x) (up c) (ix2 i j), BitVec.ofNat 32 j.val) := by
    intro p
    unfold Host.argReduceFiber
    rw [List.mem_map]
    constructor
    · rintro ⟨n, hn, rfl⟩
      have hd := (List.mem_filter.mp hn).2
      rw [decide_eq_true_iff] at hd
      have hi : (Cert.ReferenceIdeal.S1024x512.rowMajor.symm n) 0 = i := by
        have := congrFun hd 0
        exact this
      refine ⟨(Cert.ReferenceIdeal.S1024x512.rowMajor.symm n) 1, ?_⟩
      have e : Cert.ReferenceIdeal.S1024x512.rowMajor.symm n = ix2 i ((Cert.ReferenceIdeal.S1024x512.rowMajor.symm n) 1) := by
        rw [← hi]; exact eq_ix2 _
      exact Prod.ext (congrArg (Cert.ReferenceIdeal.Run.distances (F := Ideal) (up x) (up c)) e) rfl
    · rintro ⟨j, rfl⟩
      refine ⟨Cert.ReferenceIdeal.S1024x512.rowMajor (ix2 i j), List.mem_filter.mpr ⟨List.mem_finRange _, ?_⟩, ?_⟩
      · rw [decide_eq_true_iff, Equiv.symm_apply_apply]
        funext a
        match a with
        | ⟨0, _⟩ => rfl
      · rw [Equiv.symm_apply_apply]; rfl
  obtain ⟨hm, hl⟩ := foldl_least (Cert.ReferenceIdeal.reducer_argmin_f32_i32 (F := Ideal)) BitVec.toInt reducer_mem reducer_le
    (Host.argReduceFiber (Cert.ReferenceIdeal.Run.distances (F := Ideal) (up x) (up c))
      (iotaInDim Cert.ReferenceIdeal.S1024x512 32 1) Cert.ReferenceIdeal.Facts₀.reducesTo_S1024x512_S1024_d1 (ix1 i : Cert.ReferenceIdeal.S1024.Idx))
    (constant (F := Ideal) Cert.ReferenceIdeal.S_ .f32 0x7F800000#32 (Shape.Idx.first Cert.ReferenceIdeal.Facts₀.h_S_),
      constantI Cert.ReferenceIdeal.S_ 32 0#32 (Shape.Idx.first Cert.ReferenceIdeal.Facts₀.h_S_))
  have hk := hl _ (List.mem_cons_of_mem _ ((hfib _).mpr ⟨k, rfl⟩))
  have hfst := h.distances
  rcases List.mem_cons.mp hm with e | e
  · exfalso
    rw [e] at hk
    have htop : constant (F := Ideal) Cert.ReferenceIdeal.S_ .f32 0x7F800000#32 (Shape.Idx.first Cert.ReferenceIdeal.Facts₀.h_S_) = (⊤ : EReal) := ofBits_top
    rw [htop] at hk
    dsimp only at hk
    rcases hk with h1 | ⟨h1, -⟩
    · exact absurd h1 not_top_lt
    · rw [distances_apply] at h1
      exact EReal.coe_ne_top _ h1.symm
  · obtain ⟨j, hj⟩ := (hfib _).mp e
    rw [hj] at hk ⊢
    dsimp only at hk ⊢
    rcases hk with h1 | ⟨h1, h2⟩
    · exact absurd h1 (not_lt.mpr (hfst.1 j))
    · rw [toInt_index, toInt_index] at h2
      have hjk : j ≤ k := by exact_mod_cast h2
      rcases lt_or_eq_of_le hjk with g | g
      · exact absurd (hfst.2 j g) (by dsimp only; rw [h1]; exact lt_irrefl _)
      · rw [g]

end Cert.Nearest

end
-- ==== Proof.Value.Choice.lean ====
/-
  The second call's choice, for real entities and codewords: given each entity's two candidates, their rows and their
  indices, the body takes the first, stores its index and its row, and the loss of the rows taken.
-/
module

public import proofs.«01_k».proof.Proof.Value.Nearest

@[expose] public section

set_option maxRecDepth 16384

noncomputable section

namespace Cert.Choice

open Cert.KernelIdeal Cert.KernelIdeal.Gen Cert.FirstMin Cert.Candidates Cert.Metric Cert.Nearest
open Idealize.ShloMosaic Idealize.ShloMosaic.ValueIdx
open scoped BigOperators

/-- The rows of the codebook at one index per entity. -/
def picked (c : S512x256.Idx → ℝ) (K : Fin 1024 → Fin 512) : S1024x256.Idx → ℝ := fun y => c (ix2 (K (y 0)) (y 1))

/-- The sum of the squared differences between rows and entities. -/
def total (q x : S1024x256.Idx → ℝ) : ℝ := ∑ y : S1024x256.Idx, (q y - x y) * (q y - x y)

theorem total_apply (q x : S1024x256.Idx → ℝ) :
    ∑ y : S1024x256.Idx, mulf (subf (up q) (up x)) (subf (up q) (up x)) y = ((total q x : ℝ) : EReal) := by
  unfold total
  rw [coe_sum]
  refine Finset.sum_congr rfl fun y _ => ?_
  rw [EReal.coe_mul, EReal.coe_sub]
  rfl

theorem ofBits_n : Ideal.ofBits .f32 0x48800000#32 = ((262144 : ℝ) : EReal) := by
  simp [Ideal.ofBits, Ideal.ieee]; rw [← EReal.coe_mul]; norm_num
theorem ofBits_quarter : Ideal.ofBits .f32 0x3E800000#32 = ((1 / 4 : ℝ) : EReal) := by
  simp [Ideal.ofBits, Ideal.ieee]; rw [← EReal.coe_mul]; norm_num
theorem ofBits_five_quarters : Ideal.ofBits .f32 0x3FA00000#32 = ((5 / 4 : ℝ) : EReal) := by
  simp [Ideal.ofBits, Ideal.ieee]; rw [← EReal.coe_mul]; norm_num

/-- A column of squared distances: the sum over a row of the squared differences. -/
theorem column_apply (x : S1024x256.Idx → ℝ) (c : S512x256.Idx → ℝ) (K : Fin 1024 → Fin 512) (i : Fin 1024) (u : Fin 1) :
    shapeCast S1024x1 (multiReduction .add [1] S1024 (mulf (subf (up x) (up (picked c K))) (subf (up x) (up (picked c K)))) 0x00000000#32
      reduces_S1024x256_S1024 (.inl rfl) rfl) shapeCasts_S1024_S1024x1 (ix2 i u) = ((sq x c i (K i) : ℝ) : EReal) := by
  rw [shapeCast_a_a1_apply]
  refine (Ideal.multiReduction_add_single _ _ reduces_S1024x256_S1024 _ _ (ix1 i)).trans ?_
  unfold Cert.Metric.sq
  rw [coe_sum]
  refine Finset.sum_congr rfl fun d _ => ?_
  have e : reduces_S1024x256_S1024.lift (ix1 i) d = (ix2 i (d : Fin 256) : S1024x256.Idx) := funext fun a => match a with
    | ⟨0, _⟩ => rfl
    | ⟨1, _⟩ => rfl
  refine (congrArg _ e).trans ?_
  rw [EReal.coe_mul, EReal.coe_sub]
  rfl

/-- The column of their distances. -/
abbrev roots (x : S1024x256.Idx → ℝ) (c : S512x256.Idx → ℝ) (K : Fin 1024 → Fin 512) : FVec Ideal S1024x1 .f32 :=
  sqrt (shapeCast S1024x1 (multiReduction .add [1] S1024 (mulf (subf (up x) (up (picked c K))) (subf (up x) (up (picked c K))))
    0x00000000#32 reduces_S1024x256_S1024 (.inl rfl) rfl) shapeCasts_S1024_S1024x1)

theorem roots_apply (x : S1024x256.Idx → ℝ) (c : S512x256.Idx → ℝ) (K : Fin 1024 → Fin 512) (i : Fin 1024) (u : Fin 1) :
    roots x c K (ix2 i u) = ((Real.sqrt (sq x c i (K i)) : ℝ) : EReal) := by
  show Ideal.sqrt _ = _
  refine (congrArg Ideal.sqrt (column_apply x c K i u)).trans ?_
  rw [Ideal.sqrt_coe, if_neg (not_lt.mpr (sq_nonneg x c i (K i)))]

section Choose

variable (x : S1024x256.Idx → ℝ) (c : S512x256.Idx → ℝ) (K L : Fin 1024 → Fin 512) (h : ∀ i, Best x c i (K i) (L i))
  (v22 v24 : Vec Ideal S1024x1 .i32) (h22 : ∀ i u, v22 (ix2 i u) = BitVec.ofNat 32 (K i).val) (h24 : ∀ i u, v24 (ix2 i u) = BitVec.ofNat 32 (L i).val)

include h h22 h24

/-- The body takes the first candidate of every entity. -/
theorem mask_apply (i : Fin 1024) (u : Fin 1) :
    k1_pay7 (F := Ideal) (up x) (up (picked c K)) (up (picked c L)) v22 v24 (ix2 i u) = 1#1 := by
  unfold k1_pay7 k1_pay3 k1_pay4 k1_pay5 k1_pay6
  dsimp only
  simp only [shapeCast_self]
  show IntOp.ori (Ideal.cmp .olt (roots x c K (ix2 i u)) (roots x c L (ix2 i u)))
    (IntOp.andi (Ideal.cmp .oeq (roots x c K (ix2 i u)) (roots x c L (ix2 i u))) (IntOp.cmpi .slt (v22 (ix2 i u)) (v24 (ix2 i u)))) = 1#1
  rw [h22, h24, roots_apply, roots_apply]
  show IntOp.ori (BitVec.ofBool (decide (((Real.sqrt (sq x c i (K i)) : ℝ) : EReal) < ((Real.sqrt (sq x c i (L i)) : ℝ) : EReal))))
    (IntOp.andi (BitVec.ofBool (decide (((Real.sqrt (sq x c i (K i)) : ℝ) : EReal) = ((Real.sqrt (sq x c i (L i)) : ℝ) : EReal))))
      (BitVec.ofBool (decide ((BitVec.ofNat 32 (K i).val).toInt < (BitVec.ofNat 32 (L i).val).toInt)))) = 1#1
  rw [toInt_index, toInt_index]
  rcases (h i).order with e | ⟨e, e'⟩
  · rw [decide_eq_true (EReal.coe_lt_coe_iff.mpr (Real.sqrt_lt_sqrt (sq_nonneg x c i (K i)) e))]
    generalize (IntOp.andi _ _ : BitVec 1) = w
    revert w; decide
  · rw [e, decide_eq_false (lt_irrefl _), decide_eq_true rfl, decide_eq_true (by exact_mod_cast e')]
    rfl

/-- The index stored. -/
theorem index_apply (i : Fin 1024) (u : Fin 1) :
    k1_pay8 (F := Ideal) (up x) (up (picked c K)) (up (picked c L)) v22 v24 (ix2 i u) = BitVec.ofNat 32 (K i).val := by
  unfold k1_pay8 k1_pay5 k1_pay6
  dsimp only
  simp only [shapeCast_self]
  show Scalar.select (k1_pay7 (F := Ideal) _ _ _ _ _ (ix2 i u)) (v22 (ix2 i u)) (v24 (ix2 i u)) = _
  rw [mask_apply x c K L h v22 v24 h22 h24, h22]
  rfl

/-- The rows taken. -/
theorem taken_eq : k1_pay9 (F := Ideal) (up x) (up (picked c K)) (up (picked c L)) v22 v24 = up (picked c K) := by
  funext y
  obtain ⟨i, d, rfl⟩ : ∃ (i : Fin 1024) (d : Fin 256), y = ix2 i d := ⟨y 0, y 1, eq_ix2 y⟩
  unfold k1_pay9 k1_pay3 k1_pay4
  dsimp only
  simp only [shapeCast_self]
  have e : broadcastTo S1024x256 (k1_pay7 (F := Ideal) (up x) (up (picked c K)) (up (picked c L)) v22 v24) broadcasts_S1024x1_S1024x256 (ix2 i d) = 1#1 :=
    (broadcastTo_apply _ _ _ (ix2 i (0 : Fin 1)) fun a => match a with
      | ⟨0, _⟩ => rfl
      | ⟨1, _⟩ => rfl).trans (mask_apply x c K L h v22 v24 h22 h24 i 0)
  show Scalar.select (broadcastTo S1024x256 _ _ (ix2 i d)) _ _ = _
  rw [e]
  rfl

theorem stored_eq : k1_pay10 (F := Ideal) (up x) (up (picked c K)) (up (picked c L)) v22 v24 = up (picked c K) := by
  unfold k1_pay10
  dsimp only
  rw [shapeCast_self]
  exact taken_eq x c K L h v22 v24 h22 h24

/-- The loss stored. -/
theorem loss_apply (z : S1x1.Idx) : k1_pay1 (F := Ideal) (k1_pay11 (up x) (up (picked c K)) (up (picked c L)) v22 v24) (Scalar.ofBits .f32 0x3FA00000#32) z
    = ((5 / 4 * (total (picked c K) x / 262144) : ℝ) : EReal) := by
  unfold k1_pay1 k1_pay11
  dsimp only
  rw [taken_eq x c K L h v22 v24 h22 h24]
  have e : extractAt ![0, 0, 0] (shapeCast S1x1x1 (multiReduction .add [1, 2] S1 (shapeCast S1x1024x256 (mulf (subf (up (picked c K)) (up x)) (subf (up (picked c K)) (up x))) shapeCasts_S1024x256_S1x1024x256)
      0x00000000#32 reduces_S1x1024x256_S1 (.inl rfl) rfl) shapeCasts_S1_S1x1x1) inpos_S1x1x1_p0_0_0 = ((total (picked c K) x : ℝ) : EReal) := by
    rw [← total_apply]
    refine (Ideal.multiReduction_add_total _ 0x00000000#32 reduces_S1x1024x256_S1 (by decide) (.inl rfl) rfl _).trans ?_
    exact Equiv.sum_comp (Shape.reshapeEquiv shapeCasts_S1024x256_S1x1024x256) _
  rw [e]
  show Ideal.ofBits .f32 0x3FA00000#32 * Ideal.div ((total (picked c K) x : ℝ) : EReal) (Ideal.ofBits .f32 0x48800000#32) = _
  refine (congrArg₂ (fun a b => a * Ideal.div ((total (picked c K) x : ℝ) : EReal) b) ofBits_five_quarters ofBits_n).trans ?_
  show ((5 / 4 : ℝ) : EReal) * Ideal.div ((total (picked c K) x : ℝ) : EReal) ((262144 : ℝ) : EReal) = _
  rw [Ideal.div_coe (by norm_num), ← EReal.coe_mul, ← EReal.coe_mul]
  exact congrArg Real.toEReal (by ring)

end Choose

/-- The reference's loss of the same rows. -/
theorem reference_loss (q x : S1024x256.Idx → ℝ) (j : Cert.ReferenceIdeal.S_.Idx) :
    Cert.ReferenceIdeal.Run.loss (F := Ideal) (up q) (up x) j = ((5 / 4 * (total q x / 262144) : ℝ) : EReal) := by
  have hm : Cert.ReferenceIdeal.Run.meanSq (F := Ideal) (up q) (up x) j = ((total q x / 262144 : ℝ) : EReal) := by
    unfold Cert.ReferenceIdeal.Run.meanSq
    rw [hostDivf_apply, hostReduceAdd_apply, Ideal.hostReduceAdd_total _ (fun b => b.elim0), constant_apply, Ideal.ofBits_zero_f32, zero_add]
    rw [constant_apply, ofBits_n, Ideal.div_coe (by norm_num)]
    refine (congrArg (· * ((1 / 262144 : ℝ) : EReal)) (total_apply q x)).trans ?_
    rw [← EReal.coe_mul]
    congr 1
    ring
  show Cert.ReferenceIdeal.Run.meanSq (F := Ideal) (up q) (up x) j
    + Ideal.ofBits .f32 0x3E800000#32 * Cert.ReferenceIdeal.Run.meanSq (F := Ideal) (up q) (up x) j = _
  rw [hm, ofBits_quarter, ← EReal.coe_mul, ← EReal.coe_add]
  congr 1
  ring

end Cert.Choice

end
-- ==== Proof.Value.Gather.lean ====
/-
  Rows of the codebook named by a list of index words: the gather read at a row, and each program's list read at an
  entry that names a codeword.
-/
module

public import proofs.«01_k».proof.Proof.KernelIdeal.Results
public import proofs.«01_k».proof.Proof.ReferenceIdeal.Run
public import Idealize.ShloMosaic.Lib.ValueIdxCore
public import Idealize.ShloMosaic.Lib.IdealHost

@[expose] public section

set_option maxRecDepth 16384

noncomputable section

namespace Cert.Gather

open Idealize.ShloMosaic

section Rows

variable {α : Type}

/-- Whole rows of a table of `N` rows of `C` words, one for each of `B` index words. -/
def rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ where
  offsetDims := [1]
  collapsedSliceDims := [0]
  operandBatchingDims := []
  startIndicesBatchingDims := []
  startIndexMap := [0]
  indexVectorDim := 1
  sliceSizes := ![1, C]
  wf := wf

/-- Row `r` of the gather is the row that the `r`-th word names, when it names one. -/
theorem rowDims_apply {N C B w : Nat}
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (r : Fin B) (d : Fin C) (k : Fin N)
    (hk : (idx (ValueIdx.ix2 r (0 : Fin 1))).toInt = (k.val : ℤ)) :
    Host.gather (rowDims N C B wf) x idx (ValueIdx.ix2 r d) = x (ValueIdx.ix2 k d) := by
  unfold Host.gather
  congr 1
  funext a
  refine Fin.ext ?_
  show (rowDims N C B wf).start (ValueIdx.ix2 r d) idx a + (rowDims N C B wf).batchCoord (ValueIdx.ix2 r d) a
    + (rowDims N C B wf).offCoord (ValueIdx.ix2 r d) a = _
  rw [GatherDims.batchCoord_eq_zero _ _ _ (fun h => by simp [rowDims] at h)]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (rowDims N C B wf).startIndexMap from List.mem_singleton.mpr rfl)]
    have hsi : (rowDims N C B wf).siIdx (ValueIdx.ix2 r d) ⟨List.idxOf (⟨0, by decide⟩ : Fin 2) (rowDims N C B wf).startIndexMap,
        List.idxOf_lt_length_iff.2 (List.mem_singleton.mpr rfl)⟩ = ValueIdx.ix2 r (0 : Fin 1) := by
      funext b; refine Fin.ext ?_
      match b with
      | ⟨0, _⟩ => rfl
      | ⟨1, _⟩ => rfl
    rw [hsi, hk]
    show min (Int.toNat (k.val : ℤ)) (N - 1) + 0 + 0 = k.val
    have := k.isLt
    rw [Int.toNat_natCast]
    omega
  | ⟨1, _⟩ =>
    unfold GatherDims.start
    rw [dif_neg (show ¬ (⟨1, by decide⟩ : Fin 2) ∈ (rowDims N C B wf).startIndexMap from fun h => by
      simp [rowDims] at h)]
    show 0 + 0 + _ = d.val
    rw [Nat.add_zero, Nat.zero_add]
    rfl

end Rows

/-- A codeword's index, read signed. -/
theorem toInt_index (k : Fin 512) : (BitVec.ofNat 32 k.val).toInt = (k.val : ℤ) := by
  have := k.isLt
  rw [BitVec.toInt_eq_toNat_of_lt] <;> simp <;> omega

/-- Such an index is not negative, so a select on its sign keeps it. -/
theorem keep_index (w : BitVec 32) (k : Fin 512) : Scalar.select (IntOp.cmpi .slt (BitVec.ofNat 32 k.val) 0#32) w (BitVec.ofNat 32 k.val)
    = BitVec.ofNat 32 k.val := by
  have e : IntOp.cmpi .slt (BitVec.ofNat 32 k.val) 0#32 = 0#1 := by
    show BitVec.ofBool (decide ((BitVec.ofNat 32 k.val).toInt < (0#32 : BitVec 32).toInt)) = 0#1
    rw [toInt_index, decide_eq_false (by simp)]; rfl
  rw [e]; rfl

variable {F : FTy → Type} [FloatOps F]

/-- The kernel's candidate rows. -/
theorem kernel_rows (cb : FVec F Cert.KernelIdeal.S512x256 .f32) (ix : IVec Cert.KernelIdeal.S2048x1 32) (r : Fin 2048) (d : Fin 256) (k : Fin 512)
    (hk : ix (ValueIdx.ix2 r (0 : Fin 1)) = BitVec.ofNat 32 k.val) :
    Cert.KernelIdeal.Results.rows cb ix (ValueIdx.ix2 r d) = cb (ValueIdx.ix2 k d) := by
  unfold Cert.KernelIdeal.Results.rows
  refine rowDims_apply (N := 512) (C := 256) (B := 2048) (by decide) cb _ r d k ?_
  refine (congrArg BitVec.toInt ?_).trans (toInt_index k)
  refine (broadcastInDim_apply _ _ _ _ (ValueIdx.ix1 r) ?_).trans ?_
  · intro a; match a with
    | ⟨0, _⟩ => rfl
  have e : shapeCast Cert.KernelIdeal.S2048 ix Cert.KernelIdeal.Facts₀.shapeCasts_S2048x1_S2048 (ValueIdx.ix1 r) = BitVec.ofNat 32 k.val :=
    (shapeCast_apply _ _ _ (ValueIdx.ix2 r (0 : Fin 1)) (by
      rw [Shape.rowMajor_val_two, Shape.rowMajor_val_one]; show r.val * 1 + 0 = r.val; omega)).trans hk
  show Scalar.select (IntOp.cmpi .slt (shapeCast Cert.KernelIdeal.S2048 ix Cert.KernelIdeal.Facts₀.shapeCasts_S2048x1_S2048 (ValueIdx.ix1 r)) 0#32) _
    (shapeCast Cert.KernelIdeal.S2048 ix Cert.KernelIdeal.Facts₀.shapeCasts_S2048x1_S2048 (ValueIdx.ix1 r)) = _
  rw [e]
  exact keep_index _ k

/-- The reference's quantized rows. -/
theorem reference_rows (cb : FVec F Cert.ReferenceIdeal.S512x256 .f32) (ix : IVec Cert.ReferenceIdeal.S1024 32) (r : Fin 1024) (d : Fin 256) (k : Fin 512)
    (hk : ix (ValueIdx.ix1 r) = BitVec.ofNat 32 k.val) :
    Cert.ReferenceIdeal.Run.rows cb ix (ValueIdx.ix2 r d) = cb (ValueIdx.ix2 k d) := by
  unfold Cert.ReferenceIdeal.Run.rows
  refine rowDims_apply (N := 512) (C := 256) (B := 1024) (by decide) cb _ r d k ?_
  refine (congrArg BitVec.toInt ?_).trans (toInt_index k)
  refine (broadcastInDim_apply _ _ _ _ (ValueIdx.ix1 r) ?_).trans ?_
  · intro a; match a with
    | ⟨0, _⟩ => rfl
  show Scalar.select (IntOp.cmpi .slt (ix (ValueIdx.ix1 r)) 0#32) _ (ix (ValueIdx.ix1 r)) = _
  rw [hk]
  exact keep_index _ k

end Cert.Gather

end
-- ==== Proof.Value.Equal.lean ====
/-
  The kernel's three results and the reference's, at the extended reals, of real entities and codewords and of any
  queries: they are equal.
-/
module

public import proofs.«01_k».proof.Proof.Value.Choice
public import proofs.«01_k».proof.Proof.Value.Gather

@[expose] public section

set_option maxRecDepth 16384

noncomputable section

namespace Cert.Equal

open Cert.KernelIdeal Cert.KernelIdeal.Gen Cert.Metric Cert.Nearest Cert.Choice
open Cert.KernelIdeal.Results (quantOf nearestOf lossOf scoresOf queryBlock)
open Idealize.ShloMosaic

variable (x : S1024x256.Idx → ℝ) (c : S512x256.Idx → ℝ) (K L : Fin 1024 → Fin 512)

/-- Entity `i` in the first half of a column of two rows per entity, and in the second. -/
def lo (i : Fin 1024) : Fin 2048 := ⟨i.val, by have := i.isLt; omega⟩
def hi (i : Fin 1024) : Fin 2048 := ⟨1024 + i.val, by have := i.isLt; omega⟩

theorem zero2 : (![0, 0] : Fin 2 → Nat) = fun _ => 0 := funext fun a => match a with
  | ⟨0, _⟩ => rfl
  | ⟨1, _⟩ => rfl

theorem ld_mat (v : Vec Ideal S1024x256 .f32) : View.ld v Score.rMat = v := View.ld_unit_zero (S := S1024x256) zero2 _ v

/-- The index column of the first call. -/
theorem column_lo (h : ∀ i, Best x c i (K i) (L i)) (i : Fin 1024) (u : Fin 1) :
    Top2.column (F := Ideal) (up x) (up c) (ValueIdx.ix2 (lo i) u) = BitVec.ofNat 32 (K i).val := by
  unfold Top2.column
  rw [View.canon_cons_of_not_mem _ _ (by
    rw [Rect.mem_set_unit]
    intro hm
    have := (hm ⟨0, by decide⟩).1
    have hi := i.isLt
    have e : 1024 ≤ i.val := this
    omega)]
  have e : (ValueIdx.ix2 (lo i) u : S2048x1.Idx) = Top2.rFst.emb (ValueIdx.ix2 i u) := funext fun a => Fin.ext (match a with
    | ⟨0, _⟩ => by show i.val = 0 + 1 * i.val; omega
    | ⟨1, _⟩ => by show u.val = 0 + 1 * u.val; omega)
  rw [e, View.canon_cons_emb, View.ld_unit_zero (S := S1024x256) zero2, View.ld_unit_zero (S := S512x256) zero2]
  exact Cert.Candidates.fst_index (up x) (up c) i u (K i) (h i).fst

theorem column_hi (h : ∀ i, Best x c i (K i) (L i)) (i : Fin 1024) (u : Fin 1) :
    Top2.column (F := Ideal) (up x) (up c) (ValueIdx.ix2 (hi i) u) = BitVec.ofNat 32 (L i).val := by
  unfold Top2.column
  have e : (ValueIdx.ix2 (hi i) u : S2048x1.Idx) = Top2.rSnd.emb (ValueIdx.ix2 i u) := funext fun a => Fin.ext (match a with
    | ⟨0, _⟩ => by show 1024 + i.val = 1024 + 1 * i.val; omega
    | ⟨1, _⟩ => by show u.val = 0 + 1 * u.val; omega)
  rw [e, View.canon_cons_emb, View.ld_unit_zero (S := S1024x256) zero2, View.ld_unit_zero (S := S512x256) zero2]
  exact Cert.Candidates.snd_index (up x) (up c) i u (K i) (L i) (h i).fst (h i).snd

/-- The two halves of the column and of the rows gathered at it, as the second call reads them. -/
theorem ld_idxFst (h : ∀ i, Best x c i (K i) (L i)) (i : Fin 1024) (u : Fin 1) :
    View.ld (Top2.column (F := Ideal) (up x) (up c)) Score.rIdxFst (ValueIdx.ix2 i u) = BitVec.ofNat 32 (K i).val := by
  rw [← column_lo x c K L h i u]
  refine congrArg (Top2.column (F := Ideal) (up x) (up c)) (funext fun a => Fin.ext (match a with
    | ⟨0, _⟩ => by show 0 + 1 * i.val = i.val; omega
    | ⟨1, _⟩ => by show 0 + 1 * u.val = u.val; omega))
theorem ld_idxSnd (h : ∀ i, Best x c i (K i) (L i)) (i : Fin 1024) (u : Fin 1) :
    View.ld (Top2.column (F := Ideal) (up x) (up c)) Score.rIdxSnd (ValueIdx.ix2 i u) = BitVec.ofNat 32 (L i).val := by
  rw [← column_hi x c K L h i u]
  refine congrArg (Top2.column (F := Ideal) (up x) (up c)) (funext fun a => Fin.ext (match a with
    | ⟨0, _⟩ => by show 1024 + 1 * i.val = 1024 + i.val; omega
    | ⟨1, _⟩ => by show 0 + 1 * u.val = u.val; omega))

theorem ld_rowsFst (h : ∀ i, Best x c i (K i) (L i)) :
    (View.ld (Val := Elt Ideal) (e' := .f32) (Results.rows (F := Ideal) (up c) (Top2.column (F := Ideal) (up x) (up c))) Score.rRowsFst : Vec Ideal S1024x256 .f32)
      = up (picked c K) := by
  funext y
  obtain ⟨i, d, rfl⟩ : ∃ (i : Fin 1024) (d : Fin 256), y = ValueIdx.ix2 i d := ⟨y 0, y 1, ValueIdx.eq_ix2 y⟩
  refine Eq.trans ?_ (Cert.Gather.kernel_rows (F := Ideal) (up c) _ (lo i) d (K i) (column_lo x c K L h i 0))
  refine congrArg (Results.rows (F := Ideal) (up c) (Top2.column (F := Ideal) (up x) (up c))) (funext fun a => Fin.ext (match a with
    | ⟨0, _⟩ => by show 0 + 1 * i.val = i.val; omega
    | ⟨1, _⟩ => by show 0 + 1 * d.val = d.val; omega))
theorem ld_rowsSnd (h : ∀ i, Best x c i (K i) (L i)) :
    (View.ld (Val := Elt Ideal) (e' := .f32) (Results.rows (F := Ideal) (up c) (Top2.column (F := Ideal) (up x) (up c))) Score.rRowsSnd : Vec Ideal S1024x256 .f32)
      = up (picked c L) := by
  funext y
  obtain ⟨i, d, rfl⟩ : ∃ (i : Fin 1024) (d : Fin 256), y = ValueIdx.ix2 i d := ⟨y 0, y 1, ValueIdx.eq_ix2 y⟩
  refine Eq.trans ?_ (Cert.Gather.kernel_rows (F := Ideal) (up c) _ (hi i) d (L i) (column_hi x c K L h i 0))
  refine congrArg (Results.rows (F := Ideal) (up c) (Top2.column (F := Ideal) (up x) (up c))) (funext fun a => Fin.ext (match a with
    | ⟨0, _⟩ => by show 1024 + 1 * i.val = 1024 + i.val; omega
    | ⟨1, _⟩ => by show 0 + 1 * d.val = d.val; omega))

/-- What the kernel leaves, -/
theorem quantOf_eq (h : ∀ i, Best x c i (K i) (L i)) : quantOf (F := Ideal) (up x) (up c) = up (picked c K) := by
  unfold quantOf Score.quant
  rw [View.canon_unit_zero (S := S1024x256) zero2]
  unfold Score.chosen
  rw [ld_rowsFst x c K L h, ld_rowsSnd x c K L h, ld_mat]
  exact stored_eq x c K L h _ _ (ld_idxFst x c K L h) (ld_idxSnd x c K L h)
theorem nearestOf_eq (h : ∀ i, Best x c i (K i) (L i)) (i : Fin 1024) (u : Fin 1) :
    nearestOf (F := Ideal) (up x) (up c) (ValueIdx.ix2 i u) = BitVec.ofNat 32 (K i).val := by
  unfold nearestOf Score.nearest
  rw [View.canon_unit_zero (S := S1024x1) zero2, ld_rowsFst x c K L h, ld_rowsSnd x c K L h, ld_mat]
  exact index_apply x c K L h _ _ (ld_idxFst x c K L h) (ld_idxSnd x c K L h) i u
theorem lossOf_eq (h : ∀ i, Best x c i (K i) (L i)) (z : S1x1.Idx) :
    lossOf (F := Ideal) (up x) (up c) z = ((5 / 4 * (total (picked c K) x / 262144) : ℝ) : EReal) := by
  unfold lossOf Score.loss
  rw [View.canon_unit_zero (S := S1x1) zero2, ld_rowsFst x c K L h, ld_rowsSnd x c K L h, ld_mat]
  exact loss_apply x c K L h _ _ (ld_idxFst x c K L h) (ld_idxSnd x c K L h) z

/-- and the reference's quantized rows. -/
theorem reference_rows_eq (h : ∀ i, Best x c i (K i) (L i)) :
    Cert.ReferenceIdeal.Run.rows (F := Ideal) (up c) (Cert.ReferenceIdeal.Run.nearest (F := Ideal) (up x) (up c)) = up (picked c K) := by
  funext y
  obtain ⟨i, d, rfl⟩ : ∃ (i : Fin 1024) (d : Fin 256), y = ValueIdx.ix2 i d := ⟨y 0, y 1, ValueIdx.eq_ix2 y⟩
  exact Cert.Gather.reference_rows (F := Ideal) (up c) _ i d (K i) (h i).nearest

/-- The scores of the same rows: block by block, or in one product with the transpose. -/
theorem scores_eq (q : FVec Ideal S4096x256 .f32) (s : FVec Ideal S1024x256 .f32) :
    scoresOf (F := Ideal) q s = Cert.ReferenceIdeal.Run.scores (F := Ideal) q s := by
  funext y
  obtain ⟨r, j, rfl⟩ : ∃ (r : Fin 4096) (j : Fin 1024), y = ValueIdx.ix2 r j := ⟨y 0, y 1, ValueIdx.eq_ix2 y⟩
  have hr : Cert.ReferenceIdeal.Run.scores (F := Ideal) q s (ValueIdx.ix2 r j) = ∑ d : Fin 256, q (ValueIdx.ix2 r d) * s (ValueIdx.ix2 j d) := by
    unfold Cert.ReferenceIdeal.Run.scores
    refine (Ideal.matmul_plain_apply (M := 4096) (K := 256) (N := 1024) none q
      (transpose Cert.ReferenceIdeal.S256x1024 [1, 0] s Cert.ReferenceIdeal.Facts₀.transposes_S1024x256_S256x1024_1_0) (fun _ => (0 : EReal)) r j).trans ?_
    rw [zero_add]
    exact Finset.sum_congr rfl fun d _ => congrArg₂ (· * ·) rfl (ValueIdx.transpose_ix2_apply ..)
  rw [hr]
  unfold scoresOf Score.scores
  rw [View.canon_unit_zero (S := S1024x1024) zero2, ld_mat, ld_mat]
  unfold k1_pay2
  dsimp only
  refine (Ideal.matmul_transposedRhs_apply (M := 1024) (K := 256) (N := 1024) none _ s (constant S1024x1024 .f32 0x00000000#32) _ j).trans ?_
  rw [ValueIdx.constant_apply, Ideal.ofBits_zero_f32, zero_add]
  refine Finset.sum_congr rfl fun d _ => congrArg (· * s (ValueIdx.ix2 j d)) (congrArg q (funext fun a => Fin.ext (match a with
    | ⟨0, _⟩ => by show r.val / 1024 * 1024 + r.val % 1024 = r.val; omega
    | ⟨1, _⟩ => rfl)))

/-- The three results are the reference's. -/
theorem results_eq (q : FVec Ideal S4096x256 .f32) :
    scoresOf (F := Ideal) q (quantOf (F := Ideal) (up x) (up c)) = Cert.ReferenceIdeal.Run.scores (F := Ideal) q
        (Cert.ReferenceIdeal.Run.rows (F := Ideal) (up c) (Cert.ReferenceIdeal.Run.nearest (F := Ideal) (up x) (up c)))
      ∧ shapeCast S_ (lossOf (F := Ideal) (up x) (up c)) shapeCasts_S1x1_S_
        = Cert.ReferenceIdeal.Run.loss (F := Ideal) (Cert.ReferenceIdeal.Run.rows (F := Ideal) (up c) (Cert.ReferenceIdeal.Run.nearest (F := Ideal) (up x) (up c))) (up x)
      ∧ shapeCast S1024 (nearestOf (F := Ideal) (up x) (up c)) shapeCasts_S1024x1_S1024 = Cert.ReferenceIdeal.Run.nearest (F := Ideal) (up x) (up c) := by
  choose K L h using exists_best x c
  refine ⟨?_, ?_, ?_⟩
  · rw [quantOf_eq x c K L h, reference_rows_eq x c K L h]
    exact scores_eq q _
  · rw [reference_rows_eq x c K L h]
    funext j
    rw [reference_loss]
    exact lossOf_eq x c K L h _
  · funext j
    obtain ⟨i, rfl⟩ : ∃ i : Fin 1024, j = ValueIdx.ix1 i := ⟨j 0, ValueIdx.eq_ix1 j⟩
    refine Eq.trans ?_ (h i).nearest.symm
    refine (shapeCast_apply _ _ _ (ValueIdx.ix2 i (0 : Fin 1)) (by
      rw [Shape.rowMajor_val_two, Shape.rowMajor_val_one]; show i.val * 1 + 0 = i.val; omega)).trans ?_
    exact nearestOf_eq x c K L h i 0

end Cert.Equal

end
-- ==== Proof.FetchIdeal.Tile.lean ====
/-
  The gather of rows on the SparseCores, one tile's task. Tile `i` of SparseCore `c` owns the 64 consecutive entries of
  the index list that start at `64 · (2 i + c)`: it copies them into its own memory, has the table's rows that they
  name streamed beside them, and copies those rows out to the same 64 places of the result. Every tile reads the
  whole table, through a share of it. Under the condition that every entry names a row, the task ends with its
  part of the result at the rows named.
-/
module

public import proofs.«01_k».proof.Proof.Gen.FetchIdeal
public import proofs.«01_k».proof.Proof.Gen.FetchIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore

@[expose] public section

noncomputable section

namespace Cert.FetchIdeal.Rows

open Cert.FetchIdeal Cert.FetchIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program at its launch -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The three arrays of the call -/

abbrev xLoc (d : Dev nD) : Loc nD τ sig := (SparseCore.T d).loc main_v0
abbrev iLoc (d : Dev nD) : Loc nD τ sig := (SparseCore.T d).loc main_v1
abbrev oLoc (d : Dev nD) : Loc nD τ sig := (SparseCore.T d).loc main_v2

local notation "xV" => (Memref.whole Cert.FetchIdeal.main_v0_scv : Memref Cert.FetchIdeal.sig Kind.scVector Space.hbm Cert.FetchIdeal.S512x2x128 EltTy.f32)
local notation "iV" => (Memref.whole Cert.FetchIdeal.main_v1_scv : Memref Cert.FetchIdeal.sig Kind.scVector Space.hbm Cert.FetchIdeal.S2048 EltTy.i32)
local notation "oV" => (Memref.whole Cert.FetchIdeal.main_v2_scv : Memref Cert.FetchIdeal.sig Kind.scVector Space.hbm Cert.FetchIdeal.S2048x2x128 EltTy.f32)
local notation "sV" => (Memref.whole Cert.FetchIdeal.cc0_scratch0 : Memref Cert.FetchIdeal.sig Kind.scVector Space.vmem Cert.FetchIdeal.S64 EltTy.i32)
local notation "rV" => (Memref.whole Cert.FetchIdeal.cc0_scratch1 : Memref Cert.FetchIdeal.sig Kind.scVector Space.vmem Cert.FetchIdeal.S64x2x128 EltTy.f32)

theorem idiv : 32 ∣ S2048.size 0 := ⟨64, rfl⟩
theorem odiv : 32 ∣ S2048x2x128.size 0 := ⟨64, rfl⟩
/-- The `t`-th of the 32 parts of the list, and of the result. -/
abbrev ipart (t : Fin 32) : Rect S2048 := Rect.part (s := S2048) (a₀ := 0) idiv t
abbrev opart (t : Fin 32) : Rect S2048x2x128 := Rect.part (s := S2048x2x128) (a₀ := 0) odiv t
abbrev iSet (t : Fin 32) : Finset S2048.Idx := ((iV).view.slice (ipart t)).set
abbrev oSet (t : Fin 32) : Finset S2048x2x128.Idx := ((oV).view.slice (opart t)).set

/-- The part that tile `i` of SparseCore `c` works on. -/
def task (c : Fin 2) (i : Fin 16) : Fin 32 := ⟨2 * i.val + c.val, by omega⟩

/-- The share of the table that task `t` reads through. -/
abbrev xq (t : Fin 32) : PosShare TreeShare := pieceOf fullShare 32 (by decide) t

/-! ## What the call computes -/

/-- The table's rows that the list names, one for each entry. -/
def gathered (x : FVec F S512x2x128 .f32) (l : IVec S2048 32) : FVec F S2048x2x128 .f32 :=
  fun y => x (ValueIdx.ix3 (Fin.ofNat 512 (l (ValueIdx.ix1 (y 0))).toNat) (y 1) (y 2))

/-- Every entry of the list names a row of the table. -/
def InTable (l : IVec S2048 32) : Prop := ∀ j, (l j).toNat < 512

variable [FloatOps F]
variable (x : (d : Dev nD) → Buf (Elt F) (xLoc d)) (l : (d : Dev nD) → Buf (Elt F) (iLoc d)) (o : (d : Dev nD) → Buf (Elt F) (oLoc d))

abbrev xPts (d : Dev nD) (t : Fin 32) : sProp 𝕄 := xLoc d ↦{xq t} x d
abbrev iPts (d : Dev nD) (t : Fin 32) : sProp 𝕄 := iLoc d ↦[iSet t]{fullShare} l d
abbrev oPts (d : Dev nD) (t : Fin 32) (f : Buf (Elt F) (oLoc d)) : sProp 𝕄 := oLoc d ↦[oSet t]{fullShare} f

/-- What a task takes: its part of the list, its share of the table, its part of the result. -/
abbrev taken (d : Dev nD) (t : Fin 32) : sProp 𝕄 := iprop(iPts l d t ∗ xPts x d t ∗ oPts d t (o d))
/-- What it brings back: the same, its part of the result at the rows named. -/
abbrev brought (d : Dev nD) (t : Fin 32) : sProp 𝕄 := iprop(iPts l d t ∗ xPts x d t ∗ oPts d t (gathered (x d) (l d)))

/-- The call hands every SparseCore what its tiles take, and each tile its own. -/
def P : (K (F := F)).Pay (nD := nD) (Val := Elt F) (Name := ℕ) (U := UU) where
  st := fun q d c => match q with
    | 0 => bigSep Finset.univ fun i : Fin ((K (F := F)).nSub 0) => taken x l o d (task (Fin.cast nCore_zero c) (Fin.cast nSub_zero i))
  dn := fun q d c => match q with
    | 0 => bigSep Finset.univ fun i : Fin ((K (F := F)).nSub 0) => brought x l d (task (Fin.cast nCore_zero c) (Fin.cast nSub_zero i))
  go := fun q d c i => match q with
    | 0 => taken x l o d (task (Fin.cast nCore_zero c) (Fin.cast nSub_zero i))
  td := fun q d c i => match q with
    | 0 => brought x l d (task (Fin.cast nCore_zero c) (Fin.cast nSub_zero i))
  x := fun _ _ => iprop(emp)

instance P_storable : (P x l o).IsStorable where
  st q d c := match q with
    | 0 => (inferInstance : BI.Storable (upEmb : UEmb _ 𝕄)
      (bigSep Finset.univ fun i : Fin ((K (F := F)).nSub 0) => taken x l o d (task (Fin.cast nCore_zero c) (Fin.cast nSub_zero i))))
  dn q d c := match q with
    | 0 => (inferInstance : BI.Storable (upEmb : UEmb _ 𝕄)
      (bigSep Finset.univ fun i : Fin ((K (F := F)).nSub 0) => brought x l d (task (Fin.cast nCore_zero c) (Fin.cast nSub_zero i))))
  go q d c i := match q with
    | 0 => (inferInstance : BI.Storable (upEmb : UEmb _ 𝕄) (taken x l o d (task (Fin.cast nCore_zero c) (Fin.cast nSub_zero i))))
  td q d c i := match q with
    | 0 => (inferInstance : BI.Storable (upEmb : UEmb _ 𝕄) (brought x l d (task (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev tL (L : grid0.Coords) : Fin 32 := task (Fin.cast bound_zero (L 0)) (Fin.cast bound_one (L 1))

abbrev iRect (L : grid0.Coords) : Rect S2048 := Rect.unit (s := S2048) (k0_off1 L) S64.size (k0_off1_inb L)
abbrev oRect (L : grid0.Coords) : Rect S2048x2x128 := Rect.unit (s := S2048x2x128) (k0_off2 L) S64x2x128.size (k0_off2_inb L)
/-- The list's part, the result's part and the table as the task addresses them. -/
abbrev iK (L : grid0.Coords) : Memref sig .scVector .hbm S64 .i32 := (iV).slice (iRect L) (fun _ => rfl)
abbrev oK (L : grid0.Coords) : Memref sig .scVector .hbm S64x2x128 .f32 := (oV).slice (oRect L) (fun _ => rfl)
abbrev xK : Memref sig .scVector .hbm S512x2x128 .f32 :=
  (xV).slice (Rect.unit (s := S512x2x128) ![0, 0, 0] S512x2x128.size inb_S512x2x128_S512x2x128_0_0_0) (fun _ => rfl)

omit [FloatOps F] in
theorem iRect_eq : iRect L = ipart (tL L) := by
  have ht : (tL L).val = 2 * (L 1).val + (L 0).val := rfl
  generalize tL L = t at ht
  unfold iRect ipart Rect.part Rect.block
  congr 1 <;> funext a
  · rw [k0_off1_eq]
    match a with
    | 0 => simp [Shape.partIx, Shape.partSize, ht]; omega
  · match a with
    | 0 => simp [Shape.partSize]
omit [FloatOps F] in
theorem oRect_eq : oRect L = opart (tL L) := by
  have ht : (tL L).val = 2 * (L 1).val + (L 0).val := rfl
  generalize tL L = t at ht
  unfold oRect opart Rect.part Rect.block
  congr 1 <;> funext a
  · rw [k0_off2_eq]
    match a with
    | 0 => simp [Shape.partIx, Shape.partSize, ht]; omega
    | 1 => simp [Shape.partIx, Shape.partSize]
    | 2 => simp [Shape.partIx, Shape.partSize]
  · match a with
    | 0 => simp [Shape.partSize]
    | 1 => simp [Shape.partSize]
    | 2 => simp [Shape.partSize]

omit [FloatOps F] in
theorem set_iK : (iK L).view.set = iSet (tL L) := by
  show ((iV).view.slice (iRect L)).set = ((iV).view.slice (ipart (tL L))).set
  exact iRect_eq L ▸ rfl
omit [FloatOps F] in
theorem set_oK : (oK L).view.set = oSet (tL L) := by
  show ((oV).view.slice (oRect L)).set = ((oV).view.slice (opart (tL L))).set
  exact oRect_eq L ▸ rfl

omit [FloatOps F] in
theorem pts_iK (f : Buf (Elt F) (iLoc d)) :
    ((iK L).view.loc (V d (cV L) (jV L)) ↦[(iK L).view.set]{fullShare} f : sProp 𝕄) = iLoc d ↦[iSet (tL L)]{fullShare} f := by
  rw [set_iK]
omit [FloatOps F] in
theorem pts_oK (f : Buf (Elt F) (oLoc d)) :
    ((oK L).view.loc (V d (cV L) (jV L)) ↦[(oK L).view.set]{fullShare} f : sProp 𝕄) = oLoc d ↦[oSet (tL L)]{fullShare} f := by
  rw [set_oK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cellA (d : Dev nD) (c : Fin τ.nSC) (i : Fin τ.nSub) : GSem nD τ sig := (V d c i, .dma cc0_scoped0.sem)
abbrev cellB (d : Dev nD) (c : Fin τ.nSC) (i : Fin τ.nSub) : GSem nD τ sig := (V d c i, .dma cc0_scratch2.sem)
abbrev cellC (d : Dev nD) (c : Fin τ.nSC) (i : Fin τ.nSub) : GSem nD τ sig := (V d c i, .dma cc0_scoped1.sem)

omit [FloatOps F] in
/-- The task's three counters among the tile's own. -/
theorem ownSems0_V :
    (ownSems0 (V d (cV L) (jV L)) : sProp 𝕄)
      = iprop(semVal (cellA d (cV L) (jV L)) 0 ∗ semVal (cellB d (cV L) (jV L)) 0 ∗ semVal (cellC d (cV L) (jV L)) 0
          ∗ bigSep ((((ownCells (V d (cV L) (jV L))).erase (cellA d (cV L) (jV L))).erase (cellB d (cV L) (jV L))).erase (cellC d (cV L) (jV L))) fun g => semVal g 0) := by
  unfold SparseCore.Cfg.ownSems0
  rw [SparseCore.bigSep_erase' ((mem_ownCells (g := cellA d (cV L) (jV L))).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d (cV L) (jV L))).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d (cV L) (jV L))).mpr ⟨rfl, by show (SemLoc.dma cc0_scoped1.sem : SemLoc sig).isScoped .scVector = true; decide⟩⟩⟩)]

omit [FloatOps F] in
/-- The two scratch buffers among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- An entry of the list's part as the task reads it. -/
theorem read_iK (f : Buf (Elt F) (iLoc d)) (j : S64.Idx) :
    (iK L).view.read (Elt F) f j = f ((iK L).view.emb j) := (View.read_apply _ _).trans (cast_eq _ _)

omit [FloatOps F] in
/-- The copied list as the tile's memory holds it. -/
theorem read_sV (fs : Buf (Elt F) ((V d (cV L) (jV L)).loc cc0_scratch0)) (f : Buf (Elt F) (iLoc d)) (j : S64.Idx) :
    (sV).view.read (Elt F) (View.write (Elt F) (sV).view fs ((iK L).view.read (Elt F) f) Finset.univ) j = f ((iK L).view.emb j) := by
  rw [View.write_whole_univ]
  simp only [Memref.view_whole, View.read_whole]
  exact read_iK d L f j

/-- Its entries name rows of the table. -/
theorem names_rows (hl : InTable (l d)) (fs : Buf (Elt F) ((V d (cV L) (jV L)).loc cc0_scratch0)) (pay : S64.Idx → Elt F .i32)
    (hpay : pay = (iK L).view.read (Elt F) (l d)) :
    ∀ j, ((sV).view.read (Elt F) (View.write (Elt F) (sV).view fs pay Finset.univ) j).toNat < S512x2x128.size gathers_S512x2x128_S64x2x128.axis := by
  subst hpay; intro j
  rw [read_sV]
  exact hl _

/-- The rows copied out are the rows named. -/
theorem written (hl : InTable (l d)) (fs : Buf (Elt F) ((V d (cV L) (jV L)).loc cc0_scratch0)) (fr : Buf (Elt F) ((V d (cV L) (jV L)).loc cc0_scratch1))
    (fo : Buf (Elt F) (oLoc d)) (pay : S64.Idx → Elt F .i32) (hpay : pay = (iK L).view.read (Elt F) (l d))
    (hn : S64.numel = S64x2x128.size gathers_S512x2x128_S64x2x128.axis')
    (hin : ∀ j, ((sV).view.read (Elt F) (View.write (Elt F) (sV).view fs pay Finset.univ) j).toNat < S512x2x128.size gathers_S512x2x128_S64x2x128.axis)
    (pay2 : S64x2x128.Idx → Elt F .f32)
    (hpay2 : pay2 = (rV).view.read (Elt F) (View.write (Elt F) (rV).view fr
      (SparseCore.gatherPayload gathers_S512x2x128_S64x2x128 ((xK).view.read (Elt F) (x d))
        (SparseCore.rows ((sV).view.read (Elt F) (View.write (Elt F) (sV).view fs pay Finset.univ)) hn hin)) Finset.univ))
    (y : S2048x2x128.Idx) (hy : y ∈ oSet (tL L)) :
    View.write (Elt F) (oK L).view fo pay2 Finset.univ y
      = gathered (x d) (l d) y := by
  have hr : ∀ k : Fin 64, (SparseCore.rows ((sV).view.read (Elt F) (View.write (Elt F) (sV).view fs pay Finset.univ)) hn hin k).val
      = (l d ((iK L).view.emb (ValueIdx.ix1 k))).toNat := by
    intro k
    subst hpay
    have hk : S64.rowMajor.symm (k.cast hn.symm) = ValueIdx.ix1 k :=
      (S64.rowMajor.symm_apply_eq).2 (Fin.ext (by rw [Shape.rowMajor_val_one]; rfl))
    show ((sV).view.read (Elt F) _ (S64.rowMajor.symm (k.cast hn.symm))).toNat = _
    rw [read_sV, hk]
  subst hpay2
  generalize SparseCore.rows ((sV).view.read (Elt F) (View.write (Elt F) (sV).view fs pay Finset.univ)) hn hin = r at hr
  rw [← set_oK] at hy
  obtain ⟨z, -, rfl⟩ := Finset.mem_map.mp hy
  rw [View.write_emb_of_mem _ _ (Finset.mem_univ z)]
  refine (cast_eq _ _).trans ?_
  rw [View.write_whole_univ]
  simp only [Memref.view_whole, View.read_whole]
  show (xK).view.read (Elt F) (x d) (gathers_S512x2x128_S64x2x128.idx r z) = _
  rw [View.read_apply]
  refine (cast_eq _ _).trans ?_
  unfold gathered
  have hi : (iK L).view.emb (ValueIdx.ix1 (show Fin 64 from z 0)) = ValueIdx.ix1 (show Fin 2048 from (oK L).view.emb z 0) := by
    funext a
    match a with
    | 0 =>
      refine Fin.ext ?_
      show k0_off1 L 0 + 1 * (z 0).val = k0_off2 L 0 + 1 * (z 0).val
      rw [k0_off1_eq, k0_off2_eq]; rfl
  refine congrArg (x d) (funext fun a => Fin.ext ?_)
  match a with
  | 0 =>
    show 0 + 1 * (gathers_S512x2x128_S64x2x128.idx r z gathers_S512x2x128_S64x2x128.axis).val = _
    rw [Shape.Gathers.idx_axis, Nat.zero_add, Nat.one_mul]
    refine (hr (z 0)).trans ?_
    refine (congrArg (fun j => (l d j).toNat) hi).trans ?_
    exact (Nat.mod_eq_of_lt (hl _)).symm
  | 1 =>
    show 0 + 1 * (gathers_S512x2x128_S64x2x128.idx r z 1).val = k0_off2 L 1 + 1 * (z 1).val
    rw [Shape.Gathers.idx_of_ne _ _ _ _ (by decide), k0_off2_eq]; rfl
  | 2 =>
    show 0 + 1 * (gathers_S512x2x128_S64x2x128.idx r z 2).val = k0_off2 L 2 + 1 * (z 2).val
    rw [Shape.Gathers.idx_of_ne _ _ _ _ (by decide), k0_off2_eq]; rfl

omit [FloatOps F] in
/-- One write of a whole rectangle is the write of everything. -/
theorem one_write (fo : Buf (Elt F) (oLoc d)) (pay : S64x2x128.Idx → Elt F .f32) :
    (oK L).view.writes (Elt F) fo [⟨Rect.whole S64x2x128, pay⟩] = View.write (Elt F) (oK L).view fo pay Finset.univ := by
  rw [← View.write_univ_eq_writes_whole, View.writes_nil]

set_option maxHeartbeats 4000000 in
/-- The task of one tile, from the list's entries in range to its part of the result at the rows named. -/
theorem tile_body (hF : (K (F := F)).Facts) (hl : InTable (l d)) (O : CellTallies nD τ sig (HIx 1)) (W : Waits sig (HIx 1)) (hO : ∀ g, O g none = 0) :
    iprop(levAts (K (F := F)).L (K (F := F)).lev ∗ emp ∗ taken x l o d (tL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(brought x l d (tL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the stream reads its share of the table and the whole list, and owns the memory the rows land in
  ihave Hxs := (pointsTo_split_subset (q := xq (tL L)) (f := x d) (S := Finset.univ) (Finset.subset_univ (xK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 l d L) Finset.univ : sProp 𝕄)
      = (sV).view.loc (V d (cV L) (jV L)) ↦[(sV).view.set]{fullShare} View.write (Elt F) (sV).view fs (tile_body.sl.dma0 l d L) Finset.univ
      by rw [hss])) $$ Hs'
  have hN : ∀ h : S512x2x128.Gathers 0 S64x2x128, ∑ j, ((rV).slice (S64x2x128.rowRect h.axis' j) (S64x2x128.stride_rowRect h.axis' j)).view.dmaCredit
      = (rV).view.dmaCredit := by decide
  iapply (SparseCore.wp_indirectGatherLocal countersEmb 𝒱₀ (V d (cV L) (jV L)) none (hg := gathers_S512x2x128_S64x2x128) (default : HIx 1)
      (rV).view.dmaCredit (hN _) (by decide) (names_rows l d L hl fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (tL L)) (f := x d) (S := Finset.univ) (Finset.subset_univ (xK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    ihave Ho'' := (Entails.of_eq (pts_oK (F := F) d L _)) $$ Ho'
    rw [one_write]
    have hw : ∀ y ∈ oSet (tL L), View.write (Elt F) (oK L).view (o d) (tile_body.sl.dma0_1 x l d L hl fs fr) Finset.univ y = gathered (x d) (l d) y :=
      written x l d L hl fs fr (o d) (tile_body.sl.dma0 l d L) rfl rfl (names_rows l d L hl fs _ rfl) (tile_body.sl.dma0_1 x l d L hl fs fr) rfl
    iapply (Entails.of_eq (pointsTo_congr hw))
    iexact Ho''
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The launch's obligation for a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hl : ∀ d, InTable (l d)) : (K (F := F)).TileObl (D (F := F)) 𝒱 (P x l o) v₀ 0 := by
  intro d c i O W hO _ _
  simp only [show (P x l o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body x l o d (coordsV ⟨_, hci.1⟩ ⟨_, hci.2⟩) hF (hl d) O W hO).trans (wp_mono frame _ _ fun _ => obl_post)

end Tile

end Cert.FetchIdeal.Rows

end
-- ==== Proof.FetchIdeal.Run.lean ====
/-
  The gather of rows on the SparseCores: the whole program. @main gives the table's and the list's arrays their other
  shapes, calls the SparseCores, which deal the three arrays out to the 32 tiles and take them back, and gives the
  result its last shape. The run ends with the arguments unchanged, the result at the rows that the list names, and
  every counter at zero, from a launch memory whose list names rows of the table.
-/
module

public import proofs.«01_k».proof.Proof.FetchIdeal.Tile

@[expose] public section

noncomputable section

namespace Cert.FetchIdeal.Rows

open Cert.FetchIdeal Cert.FetchIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

/-! ## The arrays dealt out and taken back -/

theorem iSet_eq (t : Fin 32) : iSet t = (ipart t).set := by
  show ((View.whole (main_v1_scv : Ref sig .scVector)).slice (ipart t)).set = _
  rw [View.set_slice]; exact Finset.map_refl
theorem oSet_eq (t : Fin 32) : oSet t = (opart t).set := by
  show ((View.whole (main_v2_scv : Ref sig .scVector)).slice (opart t)).set = _
  rw [View.set_slice]; exact Finset.map_refl
theorem iSets_disjoint : ∀ s ∈ (Finset.univ : Finset (Fin 32)), ∀ t ∈ (Finset.univ : Finset (Fin 32)), s ≠ t → Disjoint (iSet s) (iSet t) :=
  fun s _ t _ h => by rw [iSet_eq, iSet_eq]; exact Rect.part_disjoint idiv h
theorem oSets_disjoint : ∀ s ∈ (Finset.univ : Finset (Fin 32)), ∀ t ∈ (Finset.univ : Finset (Fin 32)), s ≠ t → Disjoint (oSet s) (oSet t) :=
  fun s _ t _ h => by rw [oSet_eq, oSet_eq]; exact Rect.part_disjoint odiv h
theorem iSets_cover : (Finset.univ : Finset (Fin 32)).biUnion iSet = Finset.univ :=
  (Finset.biUnion_congr rfl fun t _ => iSet_eq t).trans (Rect.biUnion_part idiv)
theorem oSets_cover : (Finset.univ : Finset (Fin 32)).biUnion oSet = Finset.univ :=
  (Finset.biUnion_congr rfl fun t _ => oSet_eq t).trans (Rect.biUnion_part odiv)

theorem list_parts (d : Dev nD) (f : Buf (Elt F) (iLoc d)) :
    (iLoc d ↦{fullShare} f : sProp 𝕄) = bigSep Finset.univ fun t : Fin 32 => iLoc d ↦[iSet t]{fullShare} f := by
  rw [← pointsTo_biUnion Finset.univ (ℓ := iLoc d) iSet iSets_disjoint, iSets_cover]; try rfl
theorem result_parts (d : Dev nD) (f : Buf (Elt F) (oLoc d)) :
    (oLoc d ↦{fullShare} f : sProp 𝕄) = bigSep Finset.univ fun t : Fin 32 => oLoc d ↦[oSet t]{fullShare} f := by
  rw [← pointsTo_biUnion Finset.univ (ℓ := oLoc d) oSet oSets_disjoint, oSets_cover]; try rfl
theorem table_shares (d : Dev nD) (f : Buf (Elt F) (xLoc d)) :
    (xLoc d ↦{fullShare} f : sProp 𝕄) = bigSep Finset.univ fun t : Fin 32 => xLoc d ↦{xq t} f :=
  pointsTo_piecesOf Finset.univ f (by decide) fullShare

/-- The tiles of the two SparseCores, counted as the tasks are. -/
def taskEquiv : Fin 2 × Fin 16 ≃ Fin 32 where
  toFun p := task p.1 p.2
  invFun t := (⟨t.val % 2, by omega⟩, ⟨t.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv t := Fin.ext (by show 2 * (t.val / 2) + t.val % 2 = t.val; omega)

/-- What every task holds is what every SparseCore's tiles hold. -/
theorem over_tiles (Φ : Fin 32 → sProp 𝕄) :
    (bigSep Finset.univ fun c : Fin ((K (F := F)).nCore 0) => bigSep Finset.univ fun i : Fin ((K (F := F)).nSub 0) =>
      Φ (task (Fin.cast nCore_zero c) (Fin.cast nSub_zero i))) = bigSep Finset.univ Φ := by
  rw [bigSep_univ_equiv taskEquiv Φ, bigSep_univ_prod]
  rfl

variable [FloatOps F]

section Dealt

variable (x : (d : Dev nD) → Buf (Elt F) (xLoc d)) (l : (d : Dev nD) → Buf (Elt F) (iLoc d)) (o : (d : Dev nD) → Buf (Elt F) (oLoc d))

theorem start_eq (d : Dev nD) : (bigSep Finset.univ fun c : Fin ((K (F := F)).nCore 0) => (P x l o).st 0 d c)
    = iprop((iLoc d ↦{fullShare} l d) ∗ (xLoc d ↦{fullShare} x d) ∗ oLoc d ↦{fullShare} o d) := by
  refine (over_tiles (F := F) (fun t => taken x l o d t)).trans ?_
  rw [bigSep_sep', bigSep_sep', list_parts, table_shares, result_parts]
theorem done_eq (d : Dev nD) : (bigSep Finset.univ fun c : Fin ((K (F := F)).nCore 0) => (P x l o).dn 0 d c)
    = iprop((iLoc d ↦{fullShare} l d) ∗ (xLoc d ↦{fullShare} x d) ∗ oLoc d ↦{fullShare} gathered (x d) (l d)) := by
  refine (over_tiles (F := F) (fun t => brought x l d t)).trans ?_
  rw [bigSep_sep', bigSep_sep', list_parts, table_shares, result_parts]

/-- A SparseCore's share of the call is its tiles' shares, and so is what it brings back. -/
theorem vecSplit : (K (F := F)).VecSplit' (P x l o) 0 := by
  intro d c
  show iprop(bigSep Finset.univ fun i : Fin ((K (F := F)).nSub 0) => taken x l o d (task (Fin.cast nCore_zero c) (Fin.cast nSub_zero i)))
    ⊢ |={Set.univ}=> iprop(
      (bigSep Finset.univ fun i : Fin ((K (F := F)).nSub 0) => taken x l o d (task (Fin.cast nCore_zero c) (Fin.cast nSub_zero i)))
      ∗ ((bigSep Finset.univ fun i : Fin ((K (F := F)).nSub 0) => brought x l d (task (Fin.cast nCore_zero c) (Fin.cast nSub_zero i)))
          -∗ bigSep Finset.univ fun i : Fin ((K (F := F)).nSub 0) => brought x l d (task (Fin.cast nCore_zero c) (Fin.cast nSub_zero i))))
  iintro H; imodintro
  isplitl [H]; · iexact H
  iintro H; iexact H

/-! ## The launch's ghost state -/

def u₀ : UU := (initOf (K (F := F)).hsCells (K (F := F)).hsToks, 1)

omit [FloatOps F] in
theorem no_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P x l o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [no_emp]; iempintro
  rw [show (bigSep Finset.univ fun thr : Thread nD τ => bigSep Finset.univ fun q : Fin 1 => (P x l o).x q thr) = bigSep Finset.univ fun _ => iprop(emp) from
    bigSep_congr fun _ _ => bigSep_univ_of_subsingleton (0 : Fin 1), no_emp]
  iempintro

end Dealt

/-! ## @main -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev a0Loc (d : Dev nD) : Loc nD τ sig := (SparseCore.T d).loc main_arg0
abbrev a1Loc (d : Dev nD) : Loc nD τ sig := (SparseCore.T d).loc main_arg1
abbrev rLoc (d : Dev nD) : Loc nD τ sig := (SparseCore.T d).loc main_v3
/-- The reshapes: of the table, of the list, of the result. -/
abbrev opA : HloOp τ sig (Elt F) := StableHlo.reshape main_arg0 main_v0 (rfl : (.f32 : EltTy) = .f32) shapeCasts_S512x256_S512x2x128
abbrev opB : HloOp τ sig (Elt F) := StableHlo.reshape main_arg1 main_v1 (rfl : (.i32 : EltTy) = .i32) shapeCasts_S2048x1_S2048
abbrev opC : HloOp τ sig (Elt F) := StableHlo.reshape main_v2 main_v3 (rfl : (.f32 : EltTy) = .f32) shapeCasts_S2048x2x128_S2048x256

abbrev S6 : Finset (DevRef τ sig) := {a0', a1', v0', v1', v2', v3'}

omit [FloatOps F] in
theorem held_S6 (d : Dev nD) (W : Valuation τ sig (Elt F)) :
    (held (T d) S6 W : sProp 𝕄)
      = iprop((a0Loc d ↦{fullShare} W a0') ∗ (a1Loc d ↦{fullShare} W a1') ∗ (xLoc d ↦{fullShare} W v0') ∗ (iLoc d ↦{fullShare} W v1')
          ∗ (oLoc d ↦{fullShare} W v2') ∗ rLoc d ↦{fullShare} W v3') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (xLoc d ↦{fullShare} W main_v0) ∗ (iLoc d ↦{fullShare} W main_v1)
          ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The six arrays at the launch, at the call, and after it. -/
def V0 (d : Dev nD) : Valuation τ sig (Elt F) := fun b => m (d, b)
def V2 (d : Dev nD) : Valuation τ sig (Elt F) := (opB (F := F)).result ((opA (F := F)).result (V0 m d))
/-- The table, the list and the result's array as the call gets them. -/
abbrev tab (d : Dev nD) : Buf (Elt F) (xLoc d) := V2 m d v0'
abbrev lst (d : Dev nD) : Buf (Elt F) (iLoc d) := V2 m d v1'
abbrev old (d : Dev nD) : Buf (Elt F) (oLoc d) := V2 m d v2'
def V3 (d : Dev nD) : Valuation τ sig (Elt F) := Function.update (V2 m d) v2' (gathered (tab m d) (lst m d))
/-- The result. -/
def out (d : Dev nD) : Buf (Elt F) (rLoc d) := (opC (F := F)).result (V3 m d) v3'

omit [FloatOps F] in
theorem unscoped_held (d : Dev nD) : (unscopedBufs d (fun b => m ((SparseCore.T d).loc b)) : sProp 𝕄) = held (T d) S6 (V0 m d) := by
  rw [unscopedBufs_eq, held_S6]; rfl

theorem V2_a0 (d : Dev nD) : V2 m d a0' = m (a0Loc d) := by
  unfold V2
  rw [(opB (F := F)).result_of_not_mem _ (show a0' ∉ ({v1'} : Finset (DevRef τ sig)) by decide),
    (opA (F := F)).result_of_not_mem _ (show a0' ∉ ({v0'} : Finset (DevRef τ sig)) by decide)]
  rfl
theorem V2_a1 (d : Dev nD) : V2 m d a1' = m (a1Loc d) := by
  unfold V2
  rw [(opB (F := F)).result_of_not_mem _ (show a1' ∉ ({v1'} : Finset (DevRef τ sig)) by decide),
    (opA (F := F)).result_of_not_mem _ (show a1' ∉ ({v0'} : Finset (DevRef τ sig)) by decide)]
  rfl
theorem tab_eq (d : Dev nD) : tab m d = shapeCast S512x2x128 (m (a0Loc d)) shapeCasts_S512x256_S512x2x128 := by
  unfold tab V2
  rw [(opB (F := F)).result_of_not_mem _ (show v0' ∉ ({v1'} : Finset (DevRef τ sig)) by decide)]
  exact StableHlo.reshape_result _ _ _ _ _ _ _
theorem lst_eq (d : Dev nD) : lst m d = shapeCast S2048 (m (a1Loc d)) shapeCasts_S2048x1_S2048 := by
  unfold lst V2
  refine (StableHlo.reshape_result _ _ _ _ _ _ _).trans ?_
  rw [(opA (F := F)).result_of_not_mem _ (show a1' ∉ ({v0'} : Finset (DevRef τ sig)) by decide)]
  rfl
theorem V3_v2 (d : Dev nD) : V3 m d v2' = gathered (tab m d) (lst m d) := Function.update_self _ _ _
theorem V3_ne (d : Dev nD) (b : DevRef τ sig) (h : b ≠ v2') : V3 m d b = V2 m d b := Function.update_of_ne h _ _
theorem out_eq (d : Dev nD) : out m d = shapeCast S2048x256 (gathered (tab m d) (lst m d)) shapeCasts_S2048x2x128_S2048x256 := by
  unfold out
  refine (StableHlo.reshape_result _ _ _ _ _ _ _).trans ?_
  rw [V3_v2]
  rfl

theorem held_V2 (d : Dev nD) : (held (T d) S6 ((opB (F := F)).result ((opA (F := F)).result (V0 m d))) : sProp 𝕄)
    = iprop((a0Loc d ↦{fullShare} m (a0Loc d)) ∗ (a1Loc d ↦{fullShare} m (a1Loc d)) ∗ (xLoc d ↦{fullShare} tab m d) ∗ (iLoc d ↦{fullShare} lst m d)
        ∗ (oLoc d ↦{fullShare} old m d) ∗ rLoc d ↦{fullShare} V2 m d v3') := by
  show held (SparseCore.T d) S6 (V2 m d) = _
  rw [held_S6, V2_a0, V2_a1]
theorem held_V3 (d : Dev nD) : (held (T d) S6 (V3 m d) : sProp 𝕄)
    = iprop((a0Loc d ↦{fullShare} m (a0Loc d)) ∗ (a1Loc d ↦{fullShare} m (a1Loc d)) ∗ (xLoc d ↦{fullShare} tab m d) ∗ (iLoc d ↦{fullShare} lst m d)
        ∗ (oLoc d ↦{fullShare} gathered (tab m d) (lst m d)) ∗ rLoc d ↦{fullShare} V2 m d v3') := by
  rw [held_S6, V3_v2, V3_ne m d a0' (by decide), V3_ne m d a1' (by decide), V3_ne m d v0' (by decide), V3_ne m d v1' (by decide),
    V3_ne m d v3' (by decide), V2_a0, V2_a1]
theorem held_V4 (d : Dev nD) : (held (T d) S6 ((opC (F := F)).result (V3 m d)) : sProp 𝕄)
    = iprop((a0Loc d ↦{fullShare} m (a0Loc d)) ∗ (a1Loc d ↦{fullShare} m (a1Loc d)) ∗ (xLoc d ↦{fullShare} (opC (F := F)).result (V3 m d) v0')
        ∗ (iLoc d ↦{fullShare} (opC (F := F)).result (V3 m d) v1') ∗ (oLoc d ↦{fullShare} (opC (F := F)).result (V3 m d) v2') ∗ rLoc d ↦{fullShare} out m d) := by
  rw [held_S6, (opC (F := F)).result_of_not_mem _ (show a0' ∉ ({v3'} : Finset (DevRef τ sig)) by decide),
    (opC (F := F)).result_of_not_mem _ (show a1' ∉ ({v3'} : Finset (DevRef τ sig)) by decide),
    V3_ne m d a0' (by decide), V3_ne m d a1' (by decide), V2_a0, V2_a1]
  rfl

theorem opA_bufs : (opA (F := F)).bufs ⊆ S6 := show ({a0', v0'} : Finset (DevRef τ sig)) ⊆ S6 by decide
theorem opB_bufs : (opB (F := F)).bufs ⊆ S6 := show ({a1', v1'} : Finset (DevRef τ sig)) ⊆ S6 by decide
theorem opC_bufs : (opC (F := F)).bufs ⊆ S6 := show ({v2', v3'} : Finset (DevRef τ sig)) ⊆ S6 by decide

abbrev PM : (K (F := F)).Pay (nD := nD) (Val := Elt F) (Name := ℕ) (U := UU) := P (tab m) (lst m) (old m)

/-- What @main ends with: the arguments as they were, the result. -/
abbrev FIN (d : Dev nD) : sProp 𝕄 :=
  iprop((a0Loc d ↦{fullShare} m (a0Loc d)) ∗ (a1Loc d ↦{fullShare} m (a1Loc d)) ∗ rLoc d ↦{fullShare} out m d)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opA) (S := S6) opA_bufs (V := V0 m d)) $$ [Hb Hheld]
  · isplitl [Hb] <;> iassumption
  iintro ⟨Hb, Hheld⟩
  rw [wp_ret]; imodintro
  iapply (wp_hlo_within 𝒱 (SparseCore.T d) none Set.univ (op := opB) (S := S6) opB_bufs (V := (opA (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hc, Hx, Hi, Ho, Hr⟩
  iapply ((K (F := F)).wp_run (D (F := F)) 𝒱 (EH := EH) (P := PM m) κ d 0) $$ [Hst Ha Hc Hx Hi Ho Hb Hr Hts]
  isplitr; · iexact Hctx
  isplitl [Hst]; · iexact Hst
  isplitl [Hx Hi Ho]
  · rw [start_eq]
    isplitl [Hi]; · iexact Hi
    isplitl [Hx]; · iexact Hx
    iexact Ho
  iintro ⟨Hst, Hdn⟩
  ihave Hdn' := (Entails.of_eq (done_eq (tab m) (lst m) (old m) d)) $$ Hdn
  icases Hdn' with ⟨Hi, Hx, Ho⟩
  iapply (wp_hlo_within 𝒱 (SparseCore.T d) none Set.univ (op := opC) (S := S6) opC_bufs (V := V3 m d)) $$ [Hb Ha Hc Hx Hi Ho Hr]
  · isplitl [Hb]; · iexact Hb
    rw [held_V3]
    isplitl [Ha]; · iexact Ha
    isplitl [Hc]; · iexact Hc
    isplitl [Hx]; · iexact Hx
    isplitl [Hi]; · iexact Hi
    isplitl [Ho]; · iexact Ho
    iexact Hr
  iintro ⟨Hb, Hheld⟩
  ihave Hh := (Entails.of_eq (held_V4 (F := F) m d)) $$ Hheld
  icases Hh with ⟨Ha, Hc, -, -, -, Hr⟩
  rw [wp_ret]; imodintro; imodintro
  isplitl [Hst]; · iexact Hst
  isplitr [Hb Hts]
  · isplitl [Ha]; · iexact Ha
    isplitl [Hc]; · iexact Hc
    iexact Hr
  isplitl [Hb] <;> iassumption

/-! ## The run -/

def fq (d : Dev nD) (s' : Phys nD τ sig (Elt F)) : Prop :=
  s'.mem.mem (rLoc d) = out m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨Ha, Hc, Hr⟩, HSI⟩
  ihave H := (persistent_entails_right (SI_pointsTo_agree (st := s') (ℓ := a0Loc d) (I := Finset.univ) (q := fullShare) (f := m (a0Loc d)))) $$ [HSI Ha]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI Hc]
  · isplitl [HSI] <;> iassumption
  icases H with ⟨%h1, HSI, -⟩
  ihave H := (SI_pointsTo_agree (st := s') (ℓ := rLoc d) (I := Finset.univ) (q := fullShare) (f := out m d)) $$ [HSI Hr]
  · isplitl [HSI] <;> iassumption
  icases H with %hr
  ipureintro
  exact ⟨funext fun i => hr i (Finset.mem_univ i), funext fun i => h0 i (Finset.mem_univ i), funext fun i => h1 i (Finset.mem_univ i)⟩

def QC : PUnit × MemSt nD τ sig (Elt F) → Prop := fun r =>
  (∀ c : Dev nD, r.2.mem (rLoc c) = out m c ∧ r.2.mem (a0Loc c) = m (a0Loc c) ∧ r.2.mem (a1Loc c) = m (a1Loc c)) ∧ r.2.sem = fun _ => 0

theorem run [∀ e, Nonempty (Elt F e)] (hl : ∀ d, InTable (lst m d)) :
    θ_run (Cert.FetchIdeal.defs (F := F)) (Cert.FetchIdeal.threads (F := F)) ⟨m, fun _ => 0, ρ⟩ (QC m) :=
  SparseCore.Cfg.θ_run_sc_quiescent (K := K (F := F)) (D := D (F := F)) (𝒱 := 𝒱) (EH := EH) (P := PM m) (A := ∅) launch_facts v₀
    (fun q hq => match q with | 0 => nomatch hq)
    (fun q _ => match q with | 0 => tileObl (tab m) (lst m) (old m) launch_facts hl)
    (fun q _ => match q with | 0 => SparseCore.Cfg.VecSplit.of_plain (vecSplit (tab m) (lst m) (old m)))
    m ρ main (fun _ => iprop(emp)) (FIN m) (u₀ (F := F)) (sep_elim_left.trans (hu₀ (tab m) (lst m) (old m))) (hmain m ρ) (fq m) (hfin m) (QC m) (fun _ h hz => ⟨h, hz⟩)

end Cert.FetchIdeal.Rows

end
-- ==== Proof.Value.InTable.lean ====
/-
  The second precondition read at the list: every word names a row of the table.
-/
module

public import proofs.«01_k».proof.Proof.Gen.Pre_in_table
public import Idealize.ShloMosaic.Lib.ReduceAll
public import Idealize.ShloMosaic.Lib.WordArith
public import Idealize.ShloMosaic.Lib.ValueIdxCore

@[expose] public section

noncomputable section

namespace Cert.InTable

open Cert.Pre_in_table Cert.Pre_in_table.Gen
open Idealize.ShloMosaic Idealize.ShloMosaic.ValueIdx

variable {F : FTy → Type} [FloatOps F]

/-- A word from 0 up to 512, read signed, is below 512 read unsigned. -/
theorem toNat_lt (w : BitVec 32) (h0 : 0 ≤ w.toInt) (h1 : w.toInt < 512) : w.toNat < 512 := by
  rw [BitVec.toInt_eq_toNat_cond] at h0 h1
  have := w.isLt
  split at h0 <;> omega

/-- Under the precondition every word of the list names a row. -/
theorem names (cb : FVec F S512x256 .f32) (ix : IVec S2048x1 32) (h : Cert.Pre_in_table.fn (F := F) cb ix = fun _ => 1#1) (j : S2048x1.Idx) :
    (ix j).toNat < 512 := by
  haveI : Subsingleton S_.Idx := ⟨fun a b => funext fun d => d.elim0⟩
  have h0 := congrFun h ix0
  unfold Cert.Pre_in_table.fn at h0
  dsimp only at h0
  obtain ⟨hl, hr⟩ := IntOp.andi_eq_one.mp (Host.reduce_andi_all _ _ _ _ ix0 h0 j)
  have hl' : BitVec.ofBool (decide ((0#32 : BitVec 32).toInt ≤ (ix j).toInt)) = 1#1 := hl
  have hr' : BitVec.ofBool (decide ((ix j).toInt < (512#32 : BitVec 32).toInt)) = 1#1 := hr
  rw [WordArith.ofBool_eq_one_iff, decide_eq_true_iff] at hl' hr'
  exact toNat_lt _ (by simpa using hl') (by simpa using hr')

end Cert.InTable

end
-- ==== Proof.Value.Lookup.lean ====
/-
  The rows that the SparseCores bring are the rows that the host's gather brings, for a list of words that name rows of
  the table; and the host's program runs.
-/
module

public import proofs.«01_k».proof.Proof.FetchIdeal.Run
public import proofs.«01_k».proof.Proof.Gen.LookupIdeal.Run
public import proofs.«01_k».proof.Proof.Value.Gather

@[expose] public section

set_option maxRecDepth 16384

noncomputable section

namespace Cert.Lookup

open Idealize.ShloMosaic Idealize.ShloMosaic.TcCoe Idealize.ShloMosaic.StableHlo Idealize.SL.Sem

variable {F : FTy → Type} [FloatOps F]

section Host

open Cert.LookupIdeal Cert.LookupIdeal.Gen

/-- The host's rows. -/
def rows (cb : FVec F S512x256 .f32) (ix : IVec S2048x1 32) : FVec F S2048x256 .f32 :=
  Host.gather gather_S512x256_S2048x1_S2048x256_1_0_n_n_0_1_1256 cb (broadcastInDim S2048x1 ![0] Facts₀.bcast_S2048_S2048x1_0
    (select (cmpi .slt (shapeCast S2048 ix Facts₀.shapeCasts_S2048x1_S2048) (broadcastInDim S2048 ![] Facts₀.bcast_S_S2048 (constantI S_ 32 0#32)))
      (addi (shapeCast S2048 ix Facts₀.shapeCasts_S2048x1_S2048) (broadcastInDim S2048 ![] Facts₀.bcast_S_S2048 (constantI S_ 32 512#32)))
      (shapeCast S2048 ix Facts₀.shapeCasts_S2048x1_S2048)))

set_option maxHeartbeats 1000000 in
/-- The host's run: the rows, the arguments unchanged, every counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v7) = rows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨h, sem_eq_zero_of_no_sems (by decide) r.2⟩) (Cert.LookupIdeal.Value.run (F := F) m ρ)

end Host

/-- The list as the call gets it, at an entry. -/
theorem list_apply (ix : IVec Cert.FetchIdeal.S2048x1 32) (h : Cert.FetchIdeal.S2048x1.ShapeCasts Cert.FetchIdeal.S2048) (r : Fin 2048) :
    shapeCast Cert.FetchIdeal.S2048 ix h (ValueIdx.ix1 r) = ix (ValueIdx.ix2 r (0 : Fin 1)) :=
  shapeCast_apply _ _ _ (ValueIdx.ix2 r (0 : Fin 1)) (by
    rw [Shape.rowMajor_val_two, Shape.rowMajor_val_one]; show r.val * 1 + 0 = r.val; omega)

/-- The host's rows, row by row. -/
theorem rows_apply (cb : FVec F Cert.LookupIdeal.S512x256 .f32) (ix : IVec Cert.LookupIdeal.S2048x1 32) (r : Fin 2048) (d : Fin 256) (k : Fin 512)
    (hk : ix (ValueIdx.ix2 r (0 : Fin 1)) = BitVec.ofNat 32 k.val) : rows cb ix (ValueIdx.ix2 r d) = cb (ValueIdx.ix2 k d) := by
  unfold rows
  refine Cert.Gather.rowDims_apply (N := 512) (C := 256) (B := 2048) (by decide) cb _ r d k ?_
  refine (congrArg BitVec.toInt ?_).trans (Cert.Gather.toInt_index k)
  refine (broadcastInDim_apply _ _ _ _ (ValueIdx.ix1 r) ?_).trans ?_
  · intro a; match a with
    | ⟨0, _⟩ => rfl
  have e := (list_apply ix Cert.LookupIdeal.Facts₀.shapeCasts_S2048x1_S2048 r).trans hk
  show Scalar.select (IntOp.cmpi .slt (shapeCast Cert.LookupIdeal.S2048 ix Cert.LookupIdeal.Facts₀.shapeCasts_S2048x1_S2048 (ValueIdx.ix1 r)) 0#32) _
    (shapeCast Cert.LookupIdeal.S2048 ix Cert.LookupIdeal.Facts₀.shapeCasts_S2048x1_S2048 (ValueIdx.ix1 r)) = _
  rw [e]
  exact Cert.Gather.keep_index _ k

/-- A table entry, found where the reshape to half rows put it. -/
theorem table_apply (cb : FVec F Cert.FetchIdeal.S512x256 .f32) (h : Cert.FetchIdeal.S512x256.ShapeCasts Cert.FetchIdeal.S512x2x128)
    (k : Fin 512) (d : Fin 256) :
    shapeCast Cert.FetchIdeal.S512x2x128 cb h (ValueIdx.ix3 k (⟨d.val / 128, by omega⟩ : Fin 2) (⟨d.val % 128, by omega⟩ : Fin 128)) = cb (ValueIdx.ix2 k d) :=
  shapeCast_apply _ _ _ (ValueIdx.ix2 k d) (by
    rw [Shape.rowMajor_val_two, Shape.rowMajor_val_three]
    show k.val * 256 + d.val = (k.val * 2 + d.val / 128) * 128 + d.val % 128
    omega)

open Cert.FetchIdeal in
/-- The rows that the SparseCores bring are the host's. -/
theorem fetched_eq (cb : FVec F S512x256 .f32) (ix : IVec S2048x1 32) (hix : ∀ j, (ix j).toNat < 512)
    (h0 : S512x256.ShapeCasts S512x2x128) (h1 : S2048x1.ShapeCasts S2048) (h2 : S2048x2x128.ShapeCasts S2048x256) :
    shapeCast S2048x256 (Rows.gathered (shapeCast S512x2x128 cb h0) (shapeCast S2048 ix h1)) h2 = rows cb ix := by
  funext y
  obtain ⟨r, d, rfl⟩ : ∃ (r : Fin 2048) (d : Fin 256), y = ValueIdx.ix2 r d := ⟨y 0, y 1, ValueIdx.eq_ix2 y⟩
  have hw := hix (ValueIdx.ix2 r (0 : Fin 1))
  refine Eq.trans ?_ (rows_apply cb ix r d ⟨_, hw⟩ (BitVec.eq_of_toNat_eq (by
    rw [BitVec.toNat_ofNat]; exact (Nat.mod_eq_of_lt (ix (ValueIdx.ix2 r (0 : Fin 1))).isLt).symm))).symm
  refine (shapeCast_apply _ _ _ (ValueIdx.ix3 r (⟨d.val / 128, by omega⟩ : Fin 2) (⟨d.val % 128, by omega⟩ : Fin 128)) (by
    rw [Shape.rowMajor_val_two, Shape.rowMajor_val_three]
    show (r.val * 2 + d.val / 128) * 128 + d.val % 128 = r.val * 256 + d.val
    omega)).trans ?_
  refine Eq.trans ?_ (table_apply cb h0 ⟨_, hw⟩ d)
  show shapeCast S512x2x128 cb h0 (ValueIdx.ix3 (Fin.ofNat 512 (shapeCast S2048 ix h1 (ValueIdx.ix1 r)).toNat) _ _) = _
  rw [list_apply]
  congr 2
  exact Fin.ext (Nat.mod_eq_of_lt hw)

end Cert.Lookup

end
-- ==== Proof.lean ====
/-
  The proof of the certificate's claim: the frames of the kernel (as printed and idealized) and of the reference, and
  the equality of their three results over the extended reals for finite entities and codebook; the same of the gather of
  rows on the SparseCores and the host's, for a list of words that name rows.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Fetch
public import proofs.«01_k».proof.Proof.Gen.Fetch.Skeleton
public import proofs.«01_k».proof.Proof.Gen.FetchIdeal
public import proofs.«01_k».proof.Proof.Gen.FetchIdeal.Skeleton
public import proofs.«01_k».proof.Proof.Gen.LookupIdeal
public import proofs.«01_k».proof.Proof.Gen.LookupIdeal.Run
public import proofs.«01_k».proof.Proof.Gen.Pre_finite
public import proofs.«01_k».proof.Proof.Gen.Pre_in_table
public import proofs.«01_k».proof.Proof.Kernel.Run
public import proofs.«01_k».proof.Proof.KernelIdeal.Run
public import proofs.«01_k».proof.Proof.KernelIdeal.Results
public import proofs.«01_k».proof.Proof.ReferenceIdeal.Run
public import proofs.«01_k».proof.Proof.Value.Finite
public import proofs.«01_k».proof.Proof.Value.Equal
public import proofs.«01_k».proof.Proof.Fetch.Run
public import proofs.«01_k».proof.Proof.FetchIdeal.Run
public import proofs.«01_k».proof.Proof.Value.InTable
public import proofs.«01_k».proof.Proof.Value.Lookup
public import Idealize.ShloMosaic.Adequacy
public import Idealize.ShloMosaic.Init

@[expose] public section

noncomputable section

namespace Cert.Proof

open Idealize.ShloMosaic Idealize.ShloMosaic.TcCoe Idealize.SL.Sem

/-- The reference runs and leaves its arguments. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h.1 c).2.2.2, h.2⟩) (Cert.ReferenceIdeal.Run.run (F := Ideal) m g)

open Cert.KernelIdeal in
/-- The kernel's run with the reference's terms as its results, for arguments of which the precondition holds. -/
theorem kernel_results (m : (ℓ : Loc nD τ sig) → Buf (Elt Ideal) ℓ) (g : Dev nD → PrngReg)
    (hp : @Cert.Pre_KernelIdeal_finite Cert.Pre_finite.Gen.facts m) :
    θ_run (defs (F := Ideal)) (onTc (τ := τ) (main (F := Ideal))) ⟨m, fun _ => 0, g⟩ (fun r => ∀ c : Dev nD,
      r.2.mem ((c.tc : Thread nD τ).loc main_v9_0) = Cert.ReferenceIdeal.Run.scores (F := Ideal) (m ((c.tc : Thread nD τ).loc main_arg0))
          (Cert.ReferenceIdeal.Run.rows (F := Ideal) (m ((c.tc : Thread nD τ).loc main_arg2))
            (Cert.ReferenceIdeal.Run.nearest (F := Ideal) (m ((c.tc : Thread nD τ).loc main_arg1)) (m ((c.tc : Thread nD τ).loc main_arg2))))
      ∧ r.2.mem ((c.tc : Thread nD τ).loc main_v10) = Cert.ReferenceIdeal.Run.loss (F := Ideal)
          (Cert.ReferenceIdeal.Run.rows (F := Ideal) (m ((c.tc : Thread nD τ).loc main_arg2))
            (Cert.ReferenceIdeal.Run.nearest (F := Ideal) (m ((c.tc : Thread nD τ).loc main_arg1)) (m ((c.tc : Thread nD τ).loc main_arg2))))
          (m ((c.tc : Thread nD τ).loc main_arg1))
      ∧ r.2.mem ((c.tc : Thread nD τ).loc main_v11) = Cert.ReferenceIdeal.Run.nearest (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (Run.run (F := Ideal) m g)
  obtain ⟨⟨x, hx⟩, ⟨cb, hcb⟩⟩ := Cert.Finite.reals _ _ _ (hp c)
  obtain ⟨e0, e1, e2⟩ := Cert.Equal.results_eq x cb (m ((c.tc : Thread nD τ).loc main_arg0))
  refine ⟨?_, ?_, ?_, (h.1 c main_arg0 (by decide)).trans (Run.W4_main_arg0 m g c),
     (h.1 c main_arg1 (by decide)).trans (Run.W4_main_arg1 m g c),
     (h.1 c main_arg2 (by decide)).trans (Run.W4_main_arg2 m g c)⟩
  · refine (h.1 c main_v9_0 (by decide)).trans ((Results.W4_scores m g c).trans ?_)
    rw [hx, hcb]; exact e0
  · refine (h.1 c main_v10 (by decide)).trans ((Results.W4_loss m g c).trans ?_)
    rw [hx, hcb]; exact e1
  · refine (h.1 c main_v11 (by decide)).trans ((Results.W4_nearest m g c).trans ?_)
    rw [hx, hcb]; exact e2

open Cert.Fetch in
/-- Under the precondition the list that the SparseCores get names rows of the table. -/
theorem fetch_list {F : FTy → Type} [FloatOps F] (m : (ℓ : Loc nD τ sig) → Buf (Elt F) ℓ)
    (hp : ∀ c : Dev nD, @Cert.Pre_in_table.fn Cert.Pre_in_table.Gen.facts F _ (m ((c.tc : Thread nD τ).loc main_arg0))
      (m ((c.tc : Thread nD τ).loc main_arg1)) = fun _ => 1#1) (d : Dev nD) : Rows.InTable (Rows.lst (F := F) m d) := fun j => by
  rw [Rows.lst_eq]
  exact Cert.InTable.names _ _ (hp d) _

open Cert.FetchIdeal in
/-- The same of the idealized program. -/
theorem fetch_ideal_list {F : FTy → Type} [FloatOps F] (m : (ℓ : Loc nD τ sig) → Buf (Elt F) ℓ)
    (hp : ∀ c : Dev nD, @Cert.Pre_in_table.fn Cert.Pre_in_table.Gen.facts F _ (m ((c.tc : Thread nD τ).loc main_arg0))
      (m ((c.tc : Thread nD τ).loc main_arg1)) = fun _ => 1#1) (d : Dev nD) : Rows.InTable (Rows.lst (F := F) m d) := fun j => by
  rw [Rows.lst_eq]
  exact Cert.InTable.names _ _ (hp d) _

open Cert.FetchIdeal in
/-- The SparseCores' run with the host's rows as its result, for a list that names rows. -/
theorem fetch_results (m : (ℓ : Loc nD τ sig) → Buf (Elt Ideal) ℓ) (g : Dev nD → PrngReg)
    (hp : ∀ c : Dev nD, @Cert.Pre_in_table.fn Cert.Pre_in_table.Gen.facts Ideal _ (m ((c.tc : Thread nD τ).loc main_arg0))
      (m ((c.tc : Thread nD τ).loc main_arg1)) = fun _ => 1#1) :
    θ_run (defs (F := Ideal)) (threads (F := Ideal)) ⟨m, fun _ => 0, g⟩ (fun r => ∀ c : Dev nD,
      r.2.mem ((c.tc : Thread nD τ).loc main_v3) = Cert.Lookup.rows (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run _ _ _).mono (fun r h c => ⟨?_, (h.1 c).2.1, (h.1 c).2.2⟩) (Rows.run (F := Ideal) m g (fetch_ideal_list m hp))
  refine (h.1 c).1.trans ((Rows.out_eq m c).trans ?_)
  rw [Rows.tab_eq, Rows.lst_eq]
  exact Cert.Lookup.fetched_eq _ _ (Cert.InTable.names _ _ (hp c)) _ _ _

theorem claim : Cert.Claim := ⟨Cert.Kernel.Gen.facts, Cert.KernelIdeal.Gen.facts, Cert.ReferenceIdeal.Gen.facts, Cert.Fetch.Gen.facts,
  Cert.FetchIdeal.Gen.facts, Cert.LookupIdeal.Gen.facts, Cert.Pre_finite.Gen.facts, Cert.Pre_in_table.Gen.facts,
  fun m g _ => Cert.Kernel.Run.frame m g,
  fun m g _ => Cert.KernelIdeal.Run.frame m g,
  fun m g _ => Cert.KernelIdeal.Run.frame m g,
  fun m g _ => reference_frame m g,
  fun m g _ => reference_frame m g,
  fun m g hp => (θ_run _ _ _).mono (fun r h => ⟨fun c => (h.1 c).2, h.2⟩) (Cert.Fetch.Rows.run (F := Bits) m g (fetch_list m hp)),
  fun m g hp => (θ_run _ _ _).mono (fun r h => ⟨fun c => (h.1 c).2, h.2⟩) (Cert.FetchIdeal.Rows.run (F := Ideal) m g (fetch_ideal_list m hp)),
  fun m g _ => (θ_run _ _ _).mono (fun r h => ⟨fun c => (h.1 c).2, h.2⟩) (Cert.Lookup.run (F := Ideal) m g),
  fun m g _ => (θ_run _ _ _).mono (fun r h => ⟨fun c => (h.1 c).2, h.2⟩) (Cert.Lookup.run (F := Ideal) m g),
  trivial,
  fun m g m' g' hp ha => by
    refine ⟨_, _, _, kernel_results m g hp, ?_⟩
    refine (θ_run _ _ _).mono (fun r h c => ?_) (Cert.ReferenceIdeal.Run.run (F := Ideal) m' g')
    obtain ⟨a0, a1, a2⟩ := ha c
    obtain ⟨h0, h1, h2, h3⟩ := h.1 c
    refine ⟨h0.trans ?_, h1.trans ?_, h2.trans ?_, h3⟩
    · rw [a0, a1, a2]
    · rw [a1, a2]
    · rw [a1, a2],
  trivial,
  fun m g m' g' hp ha => by
    refine ⟨_, fetch_results m g hp, ?_⟩
    refine (θ_run _ _ _).mono (fun r h c => ?_) (Cert.Lookup.run (F := Ideal) m' g')
    obtain ⟨a0, a1⟩ := ha c
    obtain ⟨h0, h1⟩ := h.1 c
    refine ⟨h0.trans ?_, h1⟩
    rw [a0, a1]⟩

end Cert.Proof

end
